-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_on_clip_is_idle [hKernelIdeal : Cert.KernelIdeal.Facts] [hReferenceIdeal : Cert.ReferenceIdeal.Facts] [hOn_clip_is_idle : Cert.On_clip_is_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 1024]⟩ : Shape).Idx, (Cert.On_clip_is_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_clip_is_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_clip_is_idle : Cert.On_clip_is_idle.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_clip_is_idle (hKernelIdeal := hKernelIdeal) (hReferenceIdeal := hReferenceIdeal) (hOn_clip_is_idle := hOn_clip_is_idle)
-- ==== On_clip_is_idle.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_cst : FVec F S_ .f32 := constant S_ .f32 0xC2700000#32
  let main_v1 : FVec F S1024x1024 .f32 := broadcastInDim S1024x1024 ![] bcast_S_S1024x1024 main_cst
  let main_v2 : IVec S1024x1024 1 := cmpf .oge main_v0 main_v1
  let main_cst_0 : FVec F S_ .f32 := constant S_ .f32 0x42700000#32
  let main_v3 : FVec F S1024x1024 .f32 := broadcastInDim S1024x1024 ![] bcast_S_S1024x1024 main_cst_0
  let main_v4 : IVec S1024x1024 1 := cmpf .ole main_v0 main_v3
  let main_v5 : IVec S1024x1024 1 := andi main_v2 main_v4
  main_v5
-- ==== Kernel.lean ====
abbrev S1024x32 : Shape := ⟨2, ![1024, 32]⟩
abbrev S32x1024 : Shape := ⟨2, ![32, 1024]⟩
abbrev S1024x1024 : Shape := ⟨2, ![1024, 1024]⟩
abbrev S31x32x1024 : Shape := ⟨3, ![31, 32, 1024]⟩
abbrev S1x31 : Shape := ⟨2, ![1, 31]⟩
abbrev S_ : Shape := ⟨0, ![]⟩
abbrev S1x1 : Shape := ⟨2, ![1, 1]⟩
abbrev S1x32x1024 : Shape := ⟨3, ![1, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S1024x1024, .f32⟩
  | .local _ .vmem, ⟨0, _⟩ => ⟨S1024x32, .f32⟩
  | .local _ .vmem, ⟨1, _⟩ => ⟨S32x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S31x32x1024, .bf16⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_134 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v140 : BitVec 32 := Scalar.addi v2 c1_i32_134
  let c32_i32_135 : BitVec 32 := 32#32
  let v141 : BitVec 32 := Scalar.remsi v140 c32_i32_135
  let c32_i32_136 : BitVec 32 := 32#32
  let v142 : BitVec 32 := Scalar.muli v141 c32_i32_136
  let c0_i32_137 : BitVec 32 := 0#32
  let v143 : BitVec 32 := Scalar.addi v142 c0_i32_137
  let c0_i32_147 : BitVec 32 := 0#32
  ![v143.toNat, 0]
def k0_dev32 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_134 : BitVec 32 := 1#32
  let v140 : BitVec 32 := Scalar.addi v2 c1_i32_134
  let c32_i32_135 : BitVec 32 := 32#32
  let v141 : BitVec 32 := Scalar.remsi v140 c32_i32_135
  let c1_i32_143 : BitVec 32 := 1#32
  let v144 : BitVec 32 := Scalar.muli v141 c1_i32_143
  let v145 : BitVec 32 := Scalar.addi c0_i32_144 v144
  v145.toNat
def k0_dev33 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_148 : BitVec 32 := 2#32
  let v153 : BitVec 32 := Scalar.addi v2 c2_i32_148
  let c32_i32_149 : BitVec 32 := 32#32
  let v154 : BitVec 32 := Scalar.remsi v153 c32_i32_149
  let c1_i32_157 : BitVec 32 := 1#32
  let v157 : BitVec 32 := Scalar.muli v154 c1_i32_157
  let v158 : BitVec 32 := Scalar.addi c0_i32_158 v157
  v158.toNat
def k0_dev34 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_162 : BitVec 32 := 3#32
  let v166 : BitVec 32 := Scalar.addi v2 c3_i32_162
  let c32_i32_163 : BitVec 32 := 32#32
  let v167 : BitVec 32 := Scalar.remsi v166 c32_i32_163
  let c1_i32_171 : BitVec 32 := 1#32
  let v170 : BitVec 32 := Scalar.muli v167 c1_i32_171
  let v171 : BitVec 32 := Scalar.addi c0_i32_172 v170
  v171.toNat
def k0_dev35 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_176 : BitVec 32 := 4#32
  let v179 : BitVec 32 := Scalar.addi v2 c4_i32_176
  let c32_i32_177 : BitVec 32 := 32#32
  let v180 : BitVec 32 := Scalar.remsi v179 c32_i32_177
  let c1_i32_185 : BitVec 32 := 1#32
  let v183 : BitVec 32 := Scalar.muli v180 c1_i32_185
  let v184 : BitVec 32 := Scalar.addi c0_i32_186 v183
  v184.toNat
def k0_dev36 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_190 : BitVec 32 := 5#32
  let v192 : BitVec 32 := Scalar.addi v2 c5_i32_190
  let c32_i32_191 : BitVec 32 := 32#32
  let v193 : BitVec 32 := Scalar.remsi v192 c32_i32_191
  let c1_i32_199 : BitVec 32 := 1#32
  let v196 : BitVec 32 := Scalar.muli v193 c1_i32_199
  let v197 : BitVec 32 := Scalar.addi c0_i32_200 v196
  v197.toNat
def k0_dev37 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_204 : BitVec 32 := 6#32
  let v205 : BitVec 32 := Scalar.addi v2 c6_i32_204
  let c32_i32_205 : BitVec 32 := 32#32
  let v206 : BitVec 32 := Scalar.remsi v205 c32_i32_205
  let c1_i32_213 : BitVec 32 := 1#32
  let v209 : BitVec 32 := Scalar.muli v206 c1_i32_213
  let v210 : BitVec 32 := Scalar.addi c0_i32_214 v209
  v210.toNat
def k0_dev38 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_218 : BitVec 32 := 7#32
  let v218 : BitVec 32 := Scalar.addi v2 c7_i32_218
  let c32_i32_219 : BitVec 32 := 32#32
  let v219 : BitVec 32 := Scalar.remsi v218 c32_i32_219
  let c1_i32_227 : BitVec 32 := 1#32
  let v222 : BitVec 32 := Scalar.muli v219 c1_i32_227
  let v223 : BitVec 32 := Scalar.addi c0_i32_228 v222
  v223.toNat
def k0_dev39 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_232 : BitVec 32 := 8#32
  let v231 : BitVec 32 := Scalar.addi v2 c8_i32_232
  let c32_i32_233 : BitVec 32 := 32#32
  let v232 : BitVec 32 := Scalar.remsi v231 c32_i32_233
  let c1_i32_241 : BitVec 32 := 1#32
  let v235 : BitVec 32 := Scalar.muli v232 c1_i32_241
  let v236 : BitVec 32 := Scalar.addi c0_i32_242 v235
  v236.toNat
def k0_dev40 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_246 : BitVec 32 := 9#32
  let v244 : BitVec 32 := Scalar.addi v2 c9_i32_246
  let c32_i32_247 : BitVec 32 := 32#32
  let v245 : BitVec 32 := Scalar.remsi v244 c32_i32_247
  let c1_i32_255 : BitVec 32 := 1#32
  let v248 : BitVec 32 := Scalar.muli v245 c1_i32_255
  let v249 : BitVec 32 := Scalar.addi c0_i32_256 v248
  v249.toNat
def k0_dev41 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_260 : BitVec 32 := 10#32
  let v257 : BitVec 32 := Scalar.addi v2 c10_i32_260
  let c32_i32_261 : BitVec 32 := 32#32
  let v258 : BitVec 32 := Scalar.remsi v257 c32_i32_261
  let c1_i32_269 : BitVec 32 := 1#32
  let v261 : BitVec 32 := Scalar.muli v258 c1_i32_269
  let v262 : BitVec 32 := Scalar.addi c0_i32_270 v261
  v262.toNat
def k0_dev42 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_274 : BitVec 32 := 11#32
  let v270 : BitVec 32 := Scalar.addi v2 c11_i32_274
  let c32_i32_275 : BitVec 32 := 32#32
  let v271 : BitVec 32 := Scalar.remsi v270 c32_i32_275
  let c1_i32_283 : BitVec 32 := 1#32
  let v274 : BitVec 32 := Scalar.muli v271 c1_i32_283
  let v275 : BitVec 32 := Scalar.addi c0_i32_284 v274
  v275.toNat
def k0_dev43 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_288 : BitVec 32 := 12#32
  let v283 : BitVec 32 := Scalar.addi v2 c12_i32_288
  let c32_i32_289 : BitVec 32 := 32#32
  let v284 : BitVec 32 := Scalar.remsi v283 c32_i32_289
  let c1_i32_297 : BitVec 32 := 1#32
  let v287 : BitVec 32 := Scalar.muli v284 c1_i32_297
  let v288 : BitVec 32 := Scalar.addi c0_i32_298 v287
  v288.toNat
def k0_dev44 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_302 : BitVec 32 := 13#32
  let v296 : BitVec 32 := Scalar.addi v2 c13_i32_302
  let c32_i32_303 : BitVec 32 := 32#32
  let v297 : BitVec 32 := Scalar.remsi v296 c32_i32_303
  let c1_i32_311 : BitVec 32 := 1#32
  let v300 : BitVec 32 := Scalar.muli v297 c1_i32_311
  let v301 : BitVec 32 := Scalar.addi c0_i32_312 v300
  v301.toNat
def k0_dev45 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_316 : BitVec 32 := 14#32
  let v309 : BitVec 32 := Scalar.addi v2 c14_i32_316
  let c32_i32_317 : BitVec 32 := 32#32
  let v310 : BitVec 32 := Scalar.remsi v309 c32_i32_317
  let c1_i32_325 : BitVec 32 := 1#32
  let v313 : BitVec 32 := Scalar.muli v310 c1_i32_325
  let v314 : BitVec 32 := Scalar.addi c0_i32_326 v313
  v314.toNat
def k0_dev46 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_330 : BitVec 32 := 15#32
  let v322 : BitVec 32 := Scalar.addi v2 c15_i32_330
  let c32_i32_331 : BitVec 32 := 32#32
  let v323 : BitVec 32 := Scalar.remsi v322 c32_i32_331
  let c1_i32_339 : BitVec 32 := 1#32
  let v326 : BitVec 32 := Scalar.muli v323 c1_i32_339
  let v327 : BitVec 32 := Scalar.addi c0_i32_340 v326
  v327.toNat
def k0_dev47 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_344 : BitVec 32 := 16#32
  let v335 : BitVec 32 := Scalar.addi v2 c16_i32_344
  let c32_i32_345 : BitVec 32 := 32#32
  let v336 : BitVec 32 := Scalar.remsi v335 c32_i32_345
  let c1_i32_353 : BitVec 32 := 1#32
  let v339 : BitVec 32 := Scalar.muli v336 c1_i32_353
  let v340 : BitVec 32 := Scalar.addi c0_i32_354 v339
  v340.toNat
def k0_dev48 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_358 : BitVec 32 := 17#32
  let v348 : BitVec 32 := Scalar.addi v2 c17_i32_358
  let c32_i32_359 : BitVec 32 := 32#32
  let v349 : BitVec 32 := Scalar.remsi v348 c32_i32_359
  let c1_i32_367 : BitVec 32 := 1#32
  let v352 : BitVec 32 := Scalar.muli v349 c1_i32_367
  let v353 : BitVec 32 := Scalar.addi c0_i32_368 v352
  v353.toNat
def k0_dev49 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_372 : BitVec 32 := 18#32
  let v361 : BitVec 32 := Scalar.addi v2 c18_i32_372
  let c32_i32_373 : BitVec 32 := 32#32
  let v362 : BitVec 32 := Scalar.remsi v361 c32_i32_373
  let c1_i32_381 : BitVec 32 := 1#32
  let v365 : BitVec 32 := Scalar.muli v362 c1_i32_381
  let v366 : BitVec 32 := Scalar.addi c0_i32_382 v365
  v366.toNat
def k0_dev50 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_386 : BitVec 32 := 19#32
  let v374 : BitVec 32 := Scalar.addi v2 c19_i32_386
  let c32_i32_387 : BitVec 32 := 32#32
  let v375 : BitVec 32 := Scalar.remsi v374 c32_i32_387
  let c1_i32_395 : BitVec 32 := 1#32
  let v378 : BitVec 32 := Scalar.muli v375 c1_i32_395
  let v379 : BitVec 32 := Scalar.addi c0_i32_396 v378
  v379.toNat
def k0_dev51 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_400 : BitVec 32 := 20#32
  let v387 : BitVec 32 := Scalar.addi v2 c20_i32_400
  let c32_i32_401 : BitVec 32 := 32#32
  let v388 : BitVec 32 := Scalar.remsi v387 c32_i32_401
  let c1_i32_409 : BitVec 32 := 1#32
  let v391 : BitVec 32 := Scalar.muli v388 c1_i32_409
  let v392 : BitVec 32 := Scalar.addi c0_i32_410 v391
  v392.toNat
def k0_dev52 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_414 : BitVec 32 := 21#32
  let v400 : BitVec 32 := Scalar.addi v2 c21_i32_414
  let c32_i32_415 : BitVec 32 := 32#32
  let v401 : BitVec 32 := Scalar.remsi v400 c32_i32_415
  let c1_i32_423 : BitVec 32 := 1#32
  let v404 : BitVec 32 := Scalar.muli v401 c1_i32_423
  let v405 : BitVec 32 := Scalar.addi c0_i32_424 v404
  v405.toNat
def k0_dev53 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_428 : BitVec 32 := 22#32
  let v413 : BitVec 32 := Scalar.addi v2 c22_i32_428
  let c32_i32_429 : BitVec 32 := 32#32
  let v414 : BitVec 32 := Scalar.remsi v413 c32_i32_429
  let c1_i32_437 : BitVec 32 := 1#32
  let v417 : BitVec 32 := Scalar.muli v414 c1_i32_437
  let v418 : BitVec 32 := Scalar.addi c0_i32_438 v417
  v418.toNat
def k0_dev54 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_442 : BitVec 32 := 23#32
  let v426 : BitVec 32 := Scalar.addi v2 c23_i32_442
  let c32_i32_443 : BitVec 32 := 32#32
  let v427 : BitVec 32 := Scalar.remsi v426 c32_i32_443
  let c1_i32_451 : BitVec 32 := 1#32
  let v430 : BitVec 32 := Scalar.muli v427 c1_i32_451
  let v431 : BitVec 32 := Scalar.addi c0_i32_452 v430
  v431.toNat
def k0_dev55 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_456 : BitVec 32 := 24#32
  let v439 : BitVec 32 := Scalar.addi v2 c24_i32_456
  let c32_i32_457 : BitVec 32 := 32#32
  let v440 : BitVec 32 := Scalar.remsi v439 c32_i32_457
  let c1_i32_465 : BitVec 32 := 1#32
  let v443 : BitVec 32 := Scalar.muli v440 c1_i32_465
  let v444 : BitVec 32 := Scalar.addi c0_i32_466 v443
  v444.toNat
def k0_dev56 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_470 : BitVec 32 := 25#32
  let v452 : BitVec 32 := Scalar.addi v2 c25_i32_470
  let c32_i32_471 : BitVec 32 := 32#32
  let v453 : BitVec 32 := Scalar.remsi v452 c32_i32_471
  let c1_i32_479 : BitVec 32 := 1#32
  let v456 : BitVec 32 := Scalar.muli v453 c1_i32_479
  let v457 : BitVec 32 := Scalar.addi c0_i32_480 v456
  v457.toNat
def k0_dev57 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_484 : BitVec 32 := 26#32
  let v465 : BitVec 32 := Scalar.addi v2 c26_i32_484
  let c32_i32_485 : BitVec 32 := 32#32
  let v466 : BitVec 32 := Scalar.remsi v465 c32_i32_485
  let c1_i32_493 : BitVec 32 := 1#32
  let v469 : BitVec 32 := Scalar.muli v466 c1_i32_493
  let v470 : BitVec 32 := Scalar.addi c0_i32_494 v469
  v470.toNat
def k0_dev58 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_498 : BitVec 32 := 27#32
  let v478 : BitVec 32 := Scalar.addi v2 c27_i32_498
  let c32_i32_499 : BitVec 32 := 32#32
  let v479 : BitVec 32 := Scalar.remsi v478 c32_i32_499
  let c1_i32_507 : BitVec 32 := 1#32
  let v482 : BitVec 32 := Scalar.muli v479 c1_i32_507
  let v483 : BitVec 32 := Scalar.addi c0_i32_508 v482
  v483.toNat
def k0_dev59 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_512 : BitVec 32 := 28#32
  let v491 : BitVec 32 := Scalar.addi v2 c28_i32_512
  let c32_i32_513 : BitVec 32 := 32#32
  let v492 : BitVec 32 := Scalar.remsi v491 c32_i32_513
  let c1_i32_521 : BitVec 32 := 1#32
  let v495 : BitVec 32 := Scalar.muli v492 c1_i32_521
  let v496 : BitVec 32 := Scalar.addi c0_i32_522 v495
  v496.toNat
def k0_dev60 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_526 : BitVec 32 := 29#32
  let v504 : BitVec 32 := Scalar.addi v2 c29_i32_526
  let c32_i32_527 : BitVec 32 := 32#32
  let v505 : BitVec 32 := Scalar.remsi v504 c32_i32_527
  let c1_i32_535 : BitVec 32 := 1#32
  let v508 : BitVec 32 := Scalar.muli v505 c1_i32_535
  let v509 : BitVec 32 := Scalar.addi c0_i32_536 v508
  v509.toNat
def k0_dev61 (d0 : Dev nD) : Nat :=
  let c0_i32_550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_540 : BitVec 32 := 30#32
  let v517 : BitVec 32 := Scalar.addi v2 c30_i32_540
  let c32_i32_541 : BitVec 32 := 32#32
  let v518 : BitVec 32 := Scalar.remsi v517 c32_i32_541
  let c1_i32_549 : BitVec 32 := 1#32
  let v521 : BitVec 32 := Scalar.muli v518 c1_i32_549
  let v522 : BitVec 32 := Scalar.addi c0_i32_550 v521
  v522.toNat
def k0_dev62 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_554 : BitVec 32 := 31#32
  let v530 : BitVec 32 := Scalar.addi v2 c31_i32_554
  let c32_i32_555 : BitVec 32 := 32#32
  let v531 : BitVec 32 := Scalar.remsi v530 c32_i32_555
  let c1_i32_563 : BitVec 32 := 1#32
  let v534 : BitVec 32 := Scalar.muli v531 c1_i32_563
  let v535 : BitVec 32 := Scalar.addi c0_i32_564 v534
  v535.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_878 : BitVec 32 := 32#32
  let v760 : BitVec 32 := Scalar.muli v2 c32_i32_878
  let c0_i32_879 : BitVec 32 := 0#32
  let v761 : BitVec 32 := Scalar.addi v760 c0_i32_879
  let v762 : Index := Scalar.indexCast v761
  let c0_880 : Index := 0#32
  ![v762.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_878 : BitVec 32 := 32#32
  let v760 : BitVec 32 := Scalar.muli v2 c32_i32_878
  let c0_i32_879 : BitVec 32 := 0#32
  let v761 : BitVec 32 := Scalar.addi v760 c0_i32_879
  let c0_i32_894 : BitVec 32 := 0#32
  ![v761.toNat, 0]
def k0_dev63 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_886 : BitVec 32 := 1#32
  let v776 : BitVec 32 := Scalar.addi v2 c1_i32_886
  let c32_i32_887 : BitVec 32 := 32#32
  let v777 : BitVec 32 := Scalar.remsi v776 c32_i32_887
  let c1_i32_892 : BitVec 32 := 1#32
  let v778 : BitVec 32 := Scalar.muli v777 c1_i32_892
  let v779 : BitVec 32 := Scalar.addi c0_i32_893 v778
  v779.toNat
def k0_dev64 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_896 : BitVec 32 := 2#32
  let v786 : BitVec 32 := Scalar.addi v2 c2_i32_896
  let c32_i32_897 : BitVec 32 := 32#32
  let v787 : BitVec 32 := Scalar.remsi v786 c32_i32_897
  let c1_i32_902 : BitVec 32 := 1#32
  let v788 : BitVec 32 := Scalar.muli v787 c1_i32_902
  let v789 : BitVec 32 := Scalar.addi c0_i32_903 v788
  v789.toNat
def k0_dev65 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_906 : BitVec 32 := 3#32
  let v796 : BitVec 32 := Scalar.addi v2 c3_i32_906
  let c32_i32_907 : BitVec 32 := 32#32
  let v797 : BitVec 32 := Scalar.remsi v796 c32_i32_907
  let c1_i32_912 : BitVec 32 := 1#32
  let v798 : BitVec 32 := Scalar.muli v797 c1_i32_912
  let v799 : BitVec 32 := Scalar.addi c0_i32_913 v798
  v799.toNat
def k0_dev66 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_916 : BitVec 32 := 4#32
  let v806 : BitVec 32 := Scalar.addi v2 c4_i32_916
  let c32_i32_917 : BitVec 32 := 32#32
  let v807 : BitVec 32 := Scalar.remsi v806 c32_i32_917
  let c1_i32_922 : BitVec 32 := 1#32
  let v808 : BitVec 32 := Scalar.muli v807 c1_i32_922
  let v809 : BitVec 32 := Scalar.addi c0_i32_923 v808
  v809.toNat
def k0_dev67 (d0 : Dev nD) : Nat :=
  let c0_i32_933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_926 : BitVec 32 := 5#32
  let v816 : BitVec 32 := Scalar.addi v2 c5_i32_926
  let c32_i32_927 : BitVec 32 := 32#32
  let v817 : BitVec 32 := Scalar.remsi v816 c32_i32_927
  let c1_i32_932 : BitVec 32 := 1#32
  let v818 : BitVec 32 := Scalar.muli v817 c1_i32_932
  let v819 : BitVec 32 := Scalar.addi c0_i32_933 v818
  v819.toNat
def k0_dev68 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_936 : BitVec 32 := 6#32
  let v826 : BitVec 32 := Scalar.addi v2 c6_i32_936
  let c32_i32_937 : BitVec 32 := 32#32
  let v827 : BitVec 32 := Scalar.remsi v826 c32_i32_937
  let c1_i32_942 : BitVec 32 := 1#32
  let v828 : BitVec 32 := Scalar.muli v827 c1_i32_942
  let v829 : BitVec 32 := Scalar.addi c0_i32_943 v828
  v829.toNat
def k0_dev69 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_946 : BitVec 32 := 7#32
  let v836 : BitVec 32 := Scalar.addi v2 c7_i32_946
  let c32_i32_947 : BitVec 32 := 32#32
  let v837 : BitVec 32 := Scalar.remsi v836 c32_i32_947
  let c1_i32_952 : BitVec 32 := 1#32
  let v838 : BitVec 32 := Scalar.muli v837 c1_i32_952
  let v839 : BitVec 32 := Scalar.addi c0_i32_953 v838
  v839.toNat
def k0_dev70 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_956 : BitVec 32 := 8#32
  let v846 : BitVec 32 := Scalar.addi v2 c8_i32_956
  let c32_i32_957 : BitVec 32 := 32#32
  let v847 : BitVec 32 := Scalar.remsi v846 c32_i32_957
  let c1_i32_962 : BitVec 32 := 1#32
  let v848 : BitVec 32 := Scalar.muli v847 c1_i32_962
  let v849 : BitVec 32 := Scalar.addi c0_i32_963 v848
  v849.toNat
def k0_dev71 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_966 : BitVec 32 := 9#32
  let v856 : BitVec 32 := Scalar.addi v2 c9_i32_966
  let c32_i32_967 : BitVec 32 := 32#32
  let v857 : BitVec 32 := Scalar.remsi v856 c32_i32_967
  let c1_i32_972 : BitVec 32 := 1#32
  let v858 : BitVec 32 := Scalar.muli v857 c1_i32_972
  let v859 : BitVec 32 := Scalar.addi c0_i32_973 v858
  v859.toNat
def k0_dev72 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_976 : BitVec 32 := 10#32
  let v866 : BitVec 32 := Scalar.addi v2 c10_i32_976
  let c32_i32_977 : BitVec 32 := 32#32
  let v867 : BitVec 32 := Scalar.remsi v866 c32_i32_977
  let c1_i32_982 : BitVec 32 := 1#32
  let v868 : BitVec 32 := Scalar.muli v867 c1_i32_982
  let v869 : BitVec 32 := Scalar.addi c0_i32_983 v868
  v869.toNat
def k0_dev73 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_986 : BitVec 32 := 11#32
  let v876 : BitVec 32 := Scalar.addi v2 c11_i32_986
  let c32_i32_987 : BitVec 32 := 32#32
  let v877 : BitVec 32 := Scalar.remsi v876 c32_i32_987
  let c1_i32_992 : BitVec 32 := 1#32
  let v878 : BitVec 32 := Scalar.muli v877 c1_i32_992
  let v879 : BitVec 32 := Scalar.addi c0_i32_993 v878
  v879.toNat
def k0_dev74 (d0 : Dev nD) : Nat :=
  let c0_i32_1003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_996 : BitVec 32 := 12#32
  let v886 : BitVec 32 := Scalar.addi v2 c12_i32_996
  let c32_i32_997 : BitVec 32 := 32#32
  let v887 : BitVec 32 := Scalar.remsi v886 c32_i32_997
  let c1_i32_1002 : BitVec 32 := 1#32
  let v888 : BitVec 32 := Scalar.muli v887 c1_i32_1002
  let v889 : BitVec 32 := Scalar.addi c0_i32_1003 v888
  v889.toNat
def k0_dev75 (d0 : Dev nD) : Nat :=
  let c0_i32_1013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1006 : BitVec 32 := 13#32
  let v896 : BitVec 32 := Scalar.addi v2 c13_i32_1006
  let c32_i32_1007 : BitVec 32 := 32#32
  let v897 : BitVec 32 := Scalar.remsi v896 c32_i32_1007
  let c1_i32_1012 : BitVec 32 := 1#32
  let v898 : BitVec 32 := Scalar.muli v897 c1_i32_1012
  let v899 : BitVec 32 := Scalar.addi c0_i32_1013 v898
  v899.toNat
def k0_dev76 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1016 : BitVec 32 := 14#32
  let v906 : BitVec 32 := Scalar.addi v2 c14_i32_1016
  let c32_i32_1017 : BitVec 32 := 32#32
  let v907 : BitVec 32 := Scalar.remsi v906 c32_i32_1017
  let c1_i32_1022 : BitVec 32 := 1#32
  let v908 : BitVec 32 := Scalar.muli v907 c1_i32_1022
  let v909 : BitVec 32 := Scalar.addi c0_i32_1023 v908
  v909.toNat
def k0_dev77 (d0 : Dev nD) : Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1026 : BitVec 32 := 15#32
  let v916 : BitVec 32 := Scalar.addi v2 c15_i32_1026
  let c32_i32_1027 : BitVec 32 := 32#32
  let v917 : BitVec 32 := Scalar.remsi v916 c32_i32_1027
  let c1_i32_1032 : BitVec 32 := 1#32
  let v918 : BitVec 32 := Scalar.muli v917 c1_i32_1032
  let v919 : BitVec 32 := Scalar.addi c0_i32_1033 v918
  v919.toNat
def k0_dev78 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1036 : BitVec 32 := 16#32
  let v926 : BitVec 32 := Scalar.addi v2 c16_i32_1036
  let c32_i32_1037 : BitVec 32 := 32#32
  let v927 : BitVec 32 := Scalar.remsi v926 c32_i32_1037
  let c1_i32_1042 : BitVec 32 := 1#32
  let v928 : BitVec 32 := Scalar.muli v927 c1_i32_1042
  let v929 : BitVec 32 := Scalar.addi c0_i32_1043 v928
  v929.toNat
def k0_dev79 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1046 : BitVec 32 := 17#32
  let v936 : BitVec 32 := Scalar.addi v2 c17_i32_1046
  let c32_i32_1047 : BitVec 32 := 32#32
  let v937 : BitVec 32 := Scalar.remsi v936 c32_i32_1047
  let c1_i32_1052 : BitVec 32 := 1#32
  let v938 : BitVec 32 := Scalar.muli v937 c1_i32_1052
  let v939 : BitVec 32 := Scalar.addi c0_i32_1053 v938
  v939.toNat
def k0_dev80 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1056 : BitVec 32 := 18#32
  let v946 : BitVec 32 := Scalar.addi v2 c18_i32_1056
  let c32_i32_1057 : BitVec 32 := 32#32
  let v947 : BitVec 32 := Scalar.remsi v946 c32_i32_1057
  let c1_i32_1062 : BitVec 32 := 1#32
  let v948 : BitVec 32 := Scalar.muli v947 c1_i32_1062
  let v949 : BitVec 32 := Scalar.addi c0_i32_1063 v948
  v949.toNat
def k0_dev81 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1066 : BitVec 32 := 19#32
  let v956 : BitVec 32 := Scalar.addi v2 c19_i32_1066
  let c32_i32_1067 : BitVec 32 := 32#32
  let v957 : BitVec 32 := Scalar.remsi v956 c32_i32_1067
  let c1_i32_1072 : BitVec 32 := 1#32
  let v958 : BitVec 32 := Scalar.muli v957 c1_i32_1072
  let v959 : BitVec 32 := Scalar.addi c0_i32_1073 v958
  v959.toNat
def k0_dev82 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1076 : BitVec 32 := 20#32
  let v966 : BitVec 32 := Scalar.addi v2 c20_i32_1076
  let c32_i32_1077 : BitVec 32 := 32#32
  let v967 : BitVec 32 := Scalar.remsi v966 c32_i32_1077
  let c1_i32_1082 : BitVec 32 := 1#32
  let v968 : BitVec 32 := Scalar.muli v967 c1_i32_1082
  let v969 : BitVec 32 := Scalar.addi c0_i32_1083 v968
  v969.toNat
def k0_dev83 (d0 : Dev nD) : Nat :=
  let c0_i32_1093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1086 : BitVec 32 := 21#32
  let v976 : BitVec 32 := Scalar.addi v2 c21_i32_1086
  let c32_i32_1087 : BitVec 32 := 32#32
  let v977 : BitVec 32 := Scalar.remsi v976 c32_i32_1087
  let c1_i32_1092 : BitVec 32 := 1#32
  let v978 : BitVec 32 := Scalar.muli v977 c1_i32_1092
  let v979 : BitVec 32 := Scalar.addi c0_i32_1093 v978
  v979.toNat
def k0_dev84 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1096 : BitVec 32 := 22#32
  let v986 : BitVec 32 := Scalar.addi v2 c22_i32_1096
  let c32_i32_1097 : BitVec 32 := 32#32
  let v987 : BitVec 32 := Scalar.remsi v986 c32_i32_1097
  let c1_i32_1102 : BitVec 32 := 1#32
  let v988 : BitVec 32 := Scalar.muli v987 c1_i32_1102
  let v989 : BitVec 32 := Scalar.addi c0_i32_1103 v988
  v989.toNat
def k0_dev85 (d0 : Dev nD) : Nat :=
  let c0_i32_1113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1106 : BitVec 32 := 23#32
  let v996 : BitVec 32 := Scalar.addi v2 c23_i32_1106
  let c32_i32_1107 : BitVec 32 := 32#32
  let v997 : BitVec 32 := Scalar.remsi v996 c32_i32_1107
  let c1_i32_1112 : BitVec 32 := 1#32
  let v998 : BitVec 32 := Scalar.muli v997 c1_i32_1112
  let v999 : BitVec 32 := Scalar.addi c0_i32_1113 v998
  v999.toNat
def k0_dev86 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1116 : BitVec 32 := 24#32
  let v1006 : BitVec 32 := Scalar.addi v2 c24_i32_1116
  let c32_i32_1117 : BitVec 32 := 32#32
  let v1007 : BitVec 32 := Scalar.remsi v1006 c32_i32_1117
  let c1_i32_1122 : BitVec 32 := 1#32
  let v1008 : BitVec 32 := Scalar.muli v1007 c1_i32_1122
  let v1009 : BitVec 32 := Scalar.addi c0_i32_1123 v1008
  v1009.toNat
def k0_dev87 (d0 : Dev nD) : Nat :=
  let c0_i32_1133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1126 : BitVec 32 := 25#32
  let v1016 : BitVec 32 := Scalar.addi v2 c25_i32_1126
  let c32_i32_1127 : BitVec 32 := 32#32
  let v1017 : BitVec 32 := Scalar.remsi v1016 c32_i32_1127
  let c1_i32_1132 : BitVec 32 := 1#32
  let v1018 : BitVec 32 := Scalar.muli v1017 c1_i32_1132
  let v1019 : BitVec 32 := Scalar.addi c0_i32_1133 v1018
  v1019.toNat
def k0_dev88 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1136 : BitVec 32 := 26#32
  let v1026 : BitVec 32 := Scalar.addi v2 c26_i32_1136
  let c32_i32_1137 : BitVec 32 := 32#32
  let v1027 : BitVec 32 := Scalar.remsi v1026 c32_i32_1137
  let c1_i32_1142 : BitVec 32 := 1#32
  let v1028 : BitVec 32 := Scalar.muli v1027 c1_i32_1142
  let v1029 : BitVec 32 := Scalar.addi c0_i32_1143 v1028
  v1029.toNat
def k0_dev89 (d0 : Dev nD) : Nat :=
  let c0_i32_1153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1146 : BitVec 32 := 27#32
  let v1036 : BitVec 32 := Scalar.addi v2 c27_i32_1146
  let c32_i32_1147 : BitVec 32 := 32#32
  let v1037 : BitVec 32 := Scalar.remsi v1036 c32_i32_1147
  let c1_i32_1152 : BitVec 32 := 1#32
  let v1038 : BitVec 32 := Scalar.muli v1037 c1_i32_1152
  let v1039 : BitVec 32 := Scalar.addi c0_i32_1153 v1038
  v1039.toNat
def k0_dev90 (d0 : Dev nD) : Nat :=
  let c0_i32_1163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1156 : BitVec 32 := 28#32
  let v1046 : BitVec 32 := Scalar.addi v2 c28_i32_1156
  let c32_i32_1157 : BitVec 32 := 32#32
  let v1047 : BitVec 32 := Scalar.remsi v1046 c32_i32_1157
  let c1_i32_1162 : BitVec 32 := 1#32
  let v1048 : BitVec 32 := Scalar.muli v1047 c1_i32_1162
  let v1049 : BitVec 32 := Scalar.addi c0_i32_1163 v1048
  v1049.toNat
def k0_dev91 (d0 : Dev nD) : Nat :=
  let c0_i32_1173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1166 : BitVec 32 := 29#32
  let v1056 : BitVec 32 := Scalar.addi v2 c29_i32_1166
  let c32_i32_1167 : BitVec 32 := 32#32
  let v1057 : BitVec 32 := Scalar.remsi v1056 c32_i32_1167
  let c1_i32_1172 : BitVec 32 := 1#32
  let v1058 : BitVec 32 := Scalar.muli v1057 c1_i32_1172
  let v1059 : BitVec 32 := Scalar.addi c0_i32_1173 v1058
  v1059.toNat
def k0_dev92 (d0 : Dev nD) : Nat :=
  let c0_i32_1183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1176 : BitVec 32 := 30#32
  let v1066 : BitVec 32 := Scalar.addi v2 c30_i32_1176
  let c32_i32_1177 : BitVec 32 := 32#32
  let v1067 : BitVec 32 := Scalar.remsi v1066 c32_i32_1177
  let c1_i32_1182 : BitVec 32 := 1#32
  let v1068 : BitVec 32 := Scalar.muli v1067 c1_i32_1182
  let v1069 : BitVec 32 := Scalar.addi c0_i32_1183 v1068
  v1069.toNat
def k0_dev93 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1186 : BitVec 32 := 31#32
  let v1076 : BitVec 32 := Scalar.addi v2 c31_i32_1186
  let c32_i32_1187 : BitVec 32 := 32#32
  let v1077 : BitVec 32 := Scalar.remsi v1076 c32_i32_1187
  let c1_i32_1192 : BitVec 32 := 1#32
  let v1078 : BitVec 32 := Scalar.muli v1077 c1_i32_1192
  let v1079 : BitVec 32 := Scalar.addi c0_i32_1193 v1078
  v1079.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Prog.lean ====
/-
# The kernel's program as loops

The printed body of the kernel is one long sequence of 31 signals, one wait, the local matrix
product, and four families of transfers and waits, cut in sixty-three nested parts. This module
writes the same program as a handful of loops over the 31 offsets, and states that the printed body
is that program.
-/
module

public import proofs.«01_k».proof.Proof.Gen.KernelIdeal.Skeleton
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.KernelIdeal.Ring

open Cert.KernelIdeal Cert.KernelIdeal.Gen

open Idealize.ShloMosaic Idealize.ShloMosaic.TcCoe
open Idealize.SL Idealize.SL.Sem

variable {F : FTy → Type} [FloatOps F]

/-! ## The memrefs -/

/-- The device's columns of `x`, as staged. -/
abbrev xM : Memref sig .tc .vmem S1024x32 .f32 := Memref.whole cc0_stg0_0
/-- The device's rows of the weights, as staged. -/
abbrev wM : Memref sig .tc .vmem S32x1024 .f32 := Memref.whole cc0_stg1_0
/-- The result's staging buffer, also the accumulator. -/
abbrev oM : Memref sig .tc .vmem S1024x1024 .f32 := Memref.whole cc0_stg2_0
/-- The device's partial product, rounded. -/
abbrev pM : Memref sig .tc .vmem S1024x1024 .bf16 := Memref.whole cc0_scratch0
/-- The gathered result, rounded. -/
abbrev gM : Memref sig .tc .vmem S1024x1024 .bf16 := Memref.whole cc0_scratch1
/-- The 31 landing slots of the partial products. -/
abbrev sM : Memref sig .tc .vmem S31x32x1024 .bf16 := Memref.whole cc0_scratch2

/-- The runtime's barrier semaphore. -/
abbrev barS : Sem sig := (SemArray.scalar (sig.barrier 0 rfl) : Sems sig S_).sem

theorem slot_inb (o : Fin 31) : ∀ a, (![0, o.val] : Fin 2 → Nat) a + S1x1.size a ≤ S1x31.size a := by
  revert o; decide +kernel
theorem row_inb (o : Fin 31) : ∀ a, (![o.val, 0, 0] : Fin 3 → Nat) a + S1x32x1024.size a ≤ S31x32x1024.size a := by
  revert o; decide +kernel
theorem row_words (o : Fin 31) :
    (Rect.unit (s := S31x32x1024) ![o.val, 0, 0] S1x32x1024.size (row_inb o)).WholeWords (EltTy.packing .bf16) := by
  revert o; decide +kernel

/-- Entry `o` of one of the kernel's arrays of DMA semaphores. -/
abbrev semAt (A : DmaSems sig S1x31) (o : Fin 31) : DmaSem sig :=
  ((A.slice (Rect.unit (s := S1x31) ![0, o.val] S1x1.size (slot_inb o))).squeeze S_ squeezes_S1x1_S_).sem

/-- The rows of the partial product that the device `o + 1` places ahead reduces. -/
abbrev pRows (d : Dev nD) (o : Fin 31) : Memref sig .tc .vmem S32x1024 .bf16 :=
  pM.slice (Rect.unit (s := S1024x1024) (k0_off1 d (BitVec.ofNat 32 (1 + o.val))) S32x1024.size (k0_off1_inb d o)) (fun _ => rfl)
/-- Landing slot `o`. -/
abbrev sSlot (o : Fin 31) : Memref sig .tc .vmem S32x1024 .bf16 :=
  (sM.slice (Rect.unit (s := S31x32x1024) ![o.val, 0, 0] S1x32x1024.size (row_inb o)) (fun _ => rfl)).squeeze S32x1024
    squeezes_S1x32x1024_S32x1024
/-- The rows of the gathered result that device `d` computes. -/
abbrev gRows (d : Dev nD) : Memref sig .tc .vmem S32x1024 .bf16 :=
  gM.slice (Rect.unit (s := S1024x1024) (k0_off3 d) S32x1024.size (k0_off3_inb d)) (fun _ => rfl)

theorem pRows_words (d : Dev nD) (o : Fin 31) : (pRows d o).view.WordExact :=
  (Memref.isWhole_whole cc0_scratch0).wordExact_slice rfl _ (k0_off1_wordsbf16 d o)
theorem sSlot_words (o : Fin 31) : (sSlot o).view.WordExact :=
  ((Memref.isWhole_whole cc0_scratch2).wordExact_slice rfl _ (row_words o)).reshape _ _
theorem gRows_words (d : Dev nD) : (gRows d).view.WordExact :=
  (Memref.isWhole_whole cc0_scratch1).wordExact_slice rfl _ (k0_off3_wordsbf16 d)

/-! ## The device addressed -/

/-- The logical id, as the kernel computes it, of the device `w` places ahead of `d`. -/
def devW (d : Dev nD) (w : BitVec 32) : Nat :=
  (Scalar.addi 0#32 (Scalar.muli (Scalar.remsi (Scalar.addi (Scalar.remsi (Scalar.divsi (Dev.word d) 1#32) 32#32) w) 32#32) 1#32)).toNat

theorem devW_eq : ∀ (d : Dev nD) (o : Fin 31), devW d (BitVec.ofNat 32 (1 + o.val)) = (d.val + o.val + 1) % 32 := by
  decide +kernel
theorem devW_lt (d : Dev nD) (o : Fin 31) : devW d (BitVec.ofNat 32 (1 + o.val)) < nD := by
  rw [devW_eq]; exact Nat.mod_lt _ (by decide)

/-- The device `o + 1` places ahead of `d`, as the kernel addresses it. -/
abbrev devAt (d : Dev nD) (o : Fin 31) : Dev nD := ⟨devW d (BitVec.ofNat 32 (1 + o.val)), devW_lt d o⟩

/-! ## The loops -/

/-- A step for each entry of a list, in order, then the rest. -/
def loop {ι : Type} {E : Type → Type} (l : List ι) (step : ι → Prog E PUnit → Prog E PUnit) (k : Prog E PUnit) : Prog E PUnit :=
  match l with
  | [] => k
  | i :: l => step i (loop l step k)

/-- An operation for each entry of a list. -/
abbrev each {ι : Type} {E : Type → Type} (l : List ι) (f : ι → E PUnit) (k : Prog E PUnit) : Prog E PUnit :=
  loop l (fun i k => .op (f i) fun _ => k) k

/-- Two operations for each entry of a list. -/
abbrev each₂ {ι : Type} {E : Type → Type} (l : List ι) (f g : ι → E PUnit) (k : Prog E PUnit) : Prog E PUnit :=
  loop l (fun i k => .op (f i) fun _ => .op (g i) fun _ => k) k

/-- The 31 offsets in order. -/
def offs : List (Fin 31) :=
  [0, 1, 2, 3, 4, 5, 6, 7, 8, 9, 10, 11, 12, 13, 14, 15, 16, 17, 18, 19, 20, 21, 22, 23, 24, 25, 26, 27, 28, 29, 30]

abbrev Eff (F : FTy → Type) : Type → Type := TpuEff nD τ sig (Elt F) Λ₀ .tc

/-- Signal the barrier of the device `o + 1` places ahead. -/
abbrev sigOp (d : Dev nD) (o : Fin 31) : Eff F PUnit := .semSignal (Dev.tc (devAt d o)) barS (1#32 : BitVec 32).toInt
/-- Send the partial product's rows to slot `o` of the device `o + 1` places ahead, which reduces them. -/
abbrev rsSend (d : Dev nD) (o : Fin 31) : Eff F PUnit :=
  .enqueueDma (pRows d o) (.remote (Dev.tc (devAt d o)) (sSlot o) (.dma (semAt cc0_scratch3 o))) (.dma (semAt cc0_scratch4 o))
    (pRows_words d o) (sSlot_words o) ⟨⟨rfl, Or.inl rfl⟩, trivial⟩
/-- Wait for slot `o` to be filled. -/
abbrev rsRecv (d : Dev nD) (o : Fin 31) : Eff F PUnit :=
  .waitDma2 (semAt cc0_scratch4 o) (pRows d o) (sSlot o) (pRows_words d o) (sSlot_words o)
/-- Send the rows computed here to the device `o + 1` places ahead. -/
abbrev agSend (d : Dev nD) (o : Fin 31) : Eff F PUnit :=
  .enqueueDma (gRows d) (.remote (Dev.tc (devAt d o)) (gRows d) (.dma (semAt cc0_scratch5 o))) (.dma (semAt cc0_scratch6 o))
    (gRows_words d) (gRows_words d) ⟨⟨rfl, Or.inl rfl⟩, trivial⟩
/-- Wait for that send to have been read, -/
abbrev agSent (d : Dev nD) (o : Fin 31) : Eff F PUnit :=
  .waitDma2 (semAt cc0_scratch5 o) (gRows d) (gRows d) (gRows_words d) (gRows_words d)
/-- and for the rows of the device `o + 1` places behind to have arrived. -/
abbrev agRecv (d : Dev nD) (o : Fin 31) : Eff F PUnit :=
  .waitDma2 (semAt cc0_scratch6 o) (gRows d) (gRows d) (gRows_words d) (gRows_words d)
/-- Wait for the send of the partial product's rows to have been read. -/
abbrev rsSent (d : Dev nD) (o : Fin 31) : Eff F PUnit :=
  .waitDma2 (semAt cc0_scratch3 o) (sSlot o) (pRows d o) (sSlot_words o) (pRows_words d o)

abbrev rX : Rect S1024x32 := Rect.unit (s := S1024x32) ![0, 0] S1024x32.size inb_S1024x32_S1024x32_0_0
abbrev rW : Rect S32x1024 := Rect.unit (s := S32x1024) ![0, 0] S32x1024.size inb_S32x1024_S32x1024_0_0
abbrev rO : Rect S1024x1024 := Rect.unit (s := S1024x1024) ![0, 0] S1024x1024.size inb_S1024x1024_S1024x1024_0_0
abbrev rS : Rect S31x32x1024 := Rect.unit (s := S31x32x1024) ![0, 0, 0] S31x32x1024.size inb_S31x32x1024_S31x32x1024_0_0_0
/-- The rows device `d` reduces. -/
abbrev rD (d : Dev nD) : Rect S1024x1024 := Rect.unit (s := S1024x1024) (k0_off2 d) S32x1024.size (k0_off2_inb d)

/-- The end: the gathered result widened into the result's buffer. -/
def tailProg : Prog (Eff F) PUnit :=
  .op (.load gM rO.toLoadRect (View.loadsAt_vmem h_S1024x1024)) fun g =>
  .op (.load oM rO.toLoadRect (View.loadsAt_vmem h_S1024x1024)) fun _ =>
  .op (.store oM rO (k0_pay1 g) Finset.univ (View.stores_vmem_bits_univ h_S1024x1024 rfl) (.inl rfl)) fun _ =>
  .ret ⟨⟩

/-- The middle: the 31 received parts added to the own one, the activation, the result's own rows stored; then the rest. -/
def midProg (d : Dev nD) (k : Prog (Eff F) PUnit) : Prog (Eff F) PUnit :=
  .op (.load oM (rD d).toLoadRect (View.loadsAt_vmem h_S32x1024)) fun a =>
  .op (.load sM rS.toLoadRect (View.loadsAt_vmem h_S31x32x1024)) fun s =>
  .op (.load gM (rD d).toLoadRect (View.loadsAt_vmem h_S32x1024)) fun _ =>
  .op (.store gM (rD d) (k0_pay4 a s) Finset.univ
    (View.stores_vmem h_S32x1024 ((Memref.isWhole_whole cc0_scratch1).storeExact_slice rfl _ (k0_off2_packedbf16 d)) (fun _ => rfl)) (.inl rfl)) fun _ => k

/-- The local matrix product, kept wide in the result's buffer and rounded in the first scratch buffer; then the rest. -/
def mulProg (k : Prog (Eff F) PUnit) : Prog (Eff F) PUnit :=
  .op (.load xM rX.toLoadRect (View.loadsAt_vmem h_S1024x32)) fun x =>
  .op (.load wM rW.toLoadRect (View.loadsAt_vmem h_S32x1024)) fun w =>
  .op (.load oM rO.toLoadRect (View.loadsAt_vmem h_S1024x1024)) fun _ =>
  .op (.store oM rO (k0_pay2 x w) Finset.univ (View.stores_vmem_bits_univ h_S1024x1024 rfl) (.inl rfl)) fun _ =>
  .op (.load oM rO.toLoadRect (View.loadsAt_vmem h_S1024x1024)) fun a =>
  .op (.load pM rO.toLoadRect (View.loadsAt_vmem h_S1024x1024)) fun _ =>
  .op (.store pM rO (k0_pay3 a) Finset.univ
    (View.stores_vmem h_S1024x1024 ((Memref.isWhole_whole cc0_scratch0).storeExact_slice rfl _ packedbf16_S1024x1024_S1024x1024_0_0) (fun _ => rfl)) (.inl rfl)) fun _ => k

/-- The whole body on device `d`. -/
def bodyProg (d : Dev nD) : Prog (Eff F) PUnit :=
  each offs (sigOp d) <| .op (.semWait barS (31#32 : BitVec 32).toInt) fun _ =>
  mulProg <| each offs (rsSend d) <| each offs (rsRecv d) <|
  midProg d <| each offs (agSend d) <| each₂ offs (agSent d) (agRecv d) <| each offs (rsSent d) tailProg

/-- The printed body is that program, run after reading the device's id. -/
theorem body_eq : cc0_body (F := F) xM (Memref.isWhole_whole _) wM (Memref.isWhole_whole _) oM (Memref.isWhole_whole _)
      pM (Memref.isWhole_whole _) gM (Memref.isWhole_whole _) sM (Memref.isWhole_whole _)
      cc0_scratch3 cc0_scratch4 cc0_scratch5 cc0_scratch6
    = .op .deviceId fun d => bodyProg d := by
  chain_rfl

end Cert.KernelIdeal.Ring

end
-- ==== Proof.Blocks.lean ====
/-
# Devices, blocks of rows and landing slots

The mesh as a ring of 32 devices; the 32 blocks of 32 rows of a 1024 x 1024 buffer and the 31 landing
slots as sets of indices; what a transfer from a block of rows writes into a landing slot, and into the
same block of rows of another device.
-/
module

public import proofs.«01_k».proof.Proof.Prog
public import Idealize.ShloMosaic.Lib.ValueIdxCore
public import Idealize.ShloMosaic.Lib.Pipeline.Value

@[expose] public section

noncomputable section

namespace Cert.KernelIdeal.Ring

open Cert.KernelIdeal Cert.KernelIdeal.Gen

open Idealize.ShloMosaic Idealize.ShloMosaic.TcCoe
open Idealize.SL Idealize.SL.Sem
open Idealize.ShloMosaic.ValueIdx (ix2 ix3)

variable {F : FTy → Type} [FloatOps F]

/-! ## The ring -/

theorem dev_lt (c : Dev nD) : c.val < 32 := c.isLt

/-- The device `o + 1` places ahead of `c`. -/
def up (o : Fin 31) (c : Dev nD) : Dev nD := ⟨(c.val + o.val + 1) % 32, Nat.mod_lt _ (by decide)⟩
/-- The device `o + 1` places behind `c`. -/
def dn (o : Fin 31) (c : Dev nD) : Dev nD := ⟨(c.val + 31 - o.val) % 32, Nat.mod_lt _ (by decide)⟩
/-- The offset that leads back: `o + 1` places ahead is `31 - o` places behind. -/
def rev (o : Fin 31) : Fin 31 := ⟨30 - o.val, by omega⟩

theorem up_val (o : Fin 31) (c : Dev nD) : (up o c).val = (c.val + o.val + 1) % 32 := rfl
theorem dn_val (o : Fin 31) (c : Dev nD) : (dn o c).val = (c.val + 31 - o.val) % 32 := rfl

theorem dn_up (o : Fin 31) (c : Dev nD) : dn o (up o c) = c :=
  Fin.ext (by have h := dev_lt c; have h' := o.isLt; rw [dn_val, up_val]; omega)
theorem up_dn (o : Fin 31) (c : Dev nD) : up o (dn o c) = c :=
  Fin.ext (by have h := dev_lt c; have h' := o.isLt; rw [up_val, dn_val]; omega)
theorem up_rev (o : Fin 31) (c : Dev nD) : up (rev o) c = dn o c :=
  Fin.ext (by have h := dev_lt c; have h' := o.isLt; rw [up_val, dn_val]; simp only [rev]; omega)
theorem rev_rev (o : Fin 31) : rev (rev o) = o := Fin.ext (by simp only [rev]; omega)
theorem dn_rev (o : Fin 31) (c : Dev nD) : dn (rev o) c = up o c := by rw [← up_rev, rev_rev]

/-- Going `o + 1` places ahead, as a renaming of the devices. -/
def ring (o : Fin 31) : Dev nD ≃ Dev nD := ⟨up o, dn o, dn_up o, up_dn o⟩
/-- Turning the offsets round. -/
def revE : Fin 31 ≃ Fin 31 := ⟨rev, rev, rev_rev, rev_rev⟩

theorem up_ne (o : Fin 31) (c : Dev nD) : up o c ≠ c := fun h => by
  have := congrArg Fin.val h; have h1 := dev_lt c; have h' := o.isLt; rw [up_val] at this; omega
theorem up_inj (c : Dev nD) {o o' : Fin 31} (h : up o c = up o' c) : o = o' := by
  have := congrArg Fin.val h; have h1 := dev_lt c; have h2 := o.isLt; have h3 := o'.isLt
  rw [up_val, up_val] at this; exact Fin.ext (by omega)
theorem exists_up {b c : Dev nD} (h : b ≠ c) : ∃ o : Fin 31, up o c = b := by
  have h1 := dev_lt b; have h2 := dev_lt c
  have h3 : b.val ≠ c.val := fun e => h (Fin.ext e)
  exact ⟨⟨(b.val + 31 - c.val) % 32, by omega⟩, Fin.ext (by rw [up_val]; dsimp only; omega)⟩

/-- Every device is `c` or is ahead of it by one of the 31 offsets. -/
def around (c : Dev nD) : Option (Fin 31) ≃ Dev nD :=
  Equiv.ofBijective (fun | none => c | some o => up o c)
    ⟨fun a b h => by
      rcases a with _ | a <;> rcases b with _ | b
      · rfl
      · exact absurd h.symm (up_ne b c)
      · exact absurd h (up_ne a c)
      · exact congrArg some (up_inj c h),
     fun b => by
      by_cases h : b = c
      · exact ⟨none, h.symm⟩
      · obtain ⟨o, ho⟩ := exists_up h; exact ⟨some o, ho⟩⟩

theorem devAt_eq (d : Dev nD) (o : Fin 31) : devAt d o = up o d := Fin.ext (devW_eq d o)

/-! ## Blocks of rows -/

/-- The indices of block `b` of rows. -/
def rowSet (b : Dev nD) : Finset S1024x1024.Idx := Finset.univ.filter fun i => (i 0).val / 32 = b.val

theorem mem_rowSet {b : Dev nD} {i : S1024x1024.Idx} : i ∈ rowSet b ↔ (i 0).val / 32 = b.val := by
  unfold rowSet; rw [Finset.mem_filter]; exact ⟨fun h => h.2, fun h => ⟨Finset.mem_univ _, h⟩⟩

theorem rowSet_disj (b b' : Dev nD) (h : b ≠ b') : Disjoint (rowSet b) (rowSet b') :=
  Finset.disjoint_left.mpr fun i hi hi' => h (Fin.ext ((mem_rowSet.mp hi).symm.trans (mem_rowSet.mp hi')))

theorem idx0_lt (i : S1024x1024.Idx) : (i 0).val < 1024 := (i 0).isLt
theorem idx1_lt (i : S1024x1024.Idx) : (i 1).val < 1024 := (i 1).isLt

/-- The block an index lies in. -/
def blkOf (i : S1024x1024.Idx) : Dev nD :=
  ⟨(i 0).val / 32, by have := idx0_lt i; show (i 0).val / 32 < 32; omega⟩

theorem rowSet_cover : (Finset.univ.biUnion rowSet : Finset S1024x1024.Idx) = Finset.univ :=
  Finset.eq_univ_iff_forall.mpr fun i => Finset.mem_biUnion.mpr ⟨blkOf i, Finset.mem_univ _, mem_rowSet.mpr rfl⟩

/-- The place of index `x` of block `b`. -/
def rowIx (b : Dev nD) (x : S32x1024.Idx) : S1024x1024.Idx :=
  ix2 ⟨32 * b.val + (x 0).val, by have h : (x 0).val < 32 := (x 0).isLt; have := dev_lt b; omega⟩ ⟨(x 1).val, (x 1).isLt⟩

/-- The place within its block. -/
def inBlk (i : S1024x1024.Idx) : S32x1024.Idx :=
  ix2 ⟨(i 0).val % 32, Nat.mod_lt _ (by decide)⟩ ⟨(i 1).val, (i 1).isLt⟩

theorem inBlk_rowIx (b : Dev nD) (x : S32x1024.Idx) : inBlk (rowIx b x) = x := by
  have h : (x 0).val < 32 := (x 0).isLt
  funext a
  match a with
  | ⟨0, _⟩ => exact Fin.ext (show (32 * b.val + (x 0).val) % 32 = (x 0).val by omega)
  | ⟨1, _⟩ => rfl

theorem blkOf_rowIx (b : Dev nD) (x : S32x1024.Idx) : blkOf (rowIx b x) = b := by
  have h : (x 0).val < 32 := (x 0).isLt
  exact Fin.ext (show (32 * b.val + (x 0).val) / 32 = b.val by omega)

theorem rowIx_blk (i : S1024x1024.Idx) : rowIx (blkOf i) (inBlk i) = i := by
  funext a
  match a with
  | ⟨0, _⟩ => exact Fin.ext (show 32 * ((i 0).val / 32) + (i 0).val % 32 = (i 0).val by omega)
  | ⟨1, _⟩ => rfl

/-- A rectangle of 32 whole rows placed at row `32 b`. -/
theorem emb_rows (off : Fin 2 → ℕ) (b : Dev nD) (h : off = ![32 * b.val, 0])
    (inb : ∀ a, off a + S32x1024.size a ≤ S1024x1024.size a) (x : S32x1024.Idx) :
    (Rect.unit (s := S1024x1024) off S32x1024.size inb).emb x = rowIx b x := by
  subst h
  funext a
  match a with
  | ⟨0, _⟩ => exact Fin.ext (show 32 * b.val + 1 * (x 0).val = 32 * b.val + (x 0).val by omega)
  | ⟨1, _⟩ => exact Fin.ext (show 0 + 1 * (x 1).val = (x 1).val by omega)

theorem set_rows (off : Fin 2 → ℕ) (b : Dev nD) (h : off = ![32 * b.val, 0])
    (inb : ∀ a, off a + S32x1024.size a ≤ S1024x1024.size a) :
    (Rect.unit (s := S1024x1024) off S32x1024.size inb).set = rowSet b := by
  subst h
  ext i
  rw [Rect.mem_set_unit, mem_rowSet]
  have h1 := idx1_lt i
  constructor
  · intro H
    have h0 : 32 * b.val ≤ (i 0).val ∧ (i 0).val < 32 * b.val + 32 := H 0
    omega
  · intro H a
    match a with
    | ⟨0, _⟩ => exact (show 32 * b.val ≤ (i 0).val ∧ (i 0).val < 32 * b.val + 32 by omega)
    | ⟨1, _⟩ => exact (show 0 ≤ (i 1).val ∧ (i 1).val < 0 + 1024 by omega)

theorem off1_blk (d : Dev nD) (o : Fin 31) : k0_off1 d (BitVec.ofNat 32 (1 + o.val)) = ![32 * (up o d).val, 0] := k0_off1_eq d o
theorem off2_blk : ∀ d : Dev nD, k0_off2 d = ![32 * d.val, 0] := by decide +kernel
theorem off3_blk : ∀ d : Dev nD, k0_off3 d = ![32 * d.val, 0] := by decide +kernel

theorem pRows_emb (d : Dev nD) (o : Fin 31) (x : S32x1024.Idx) : (pRows d o).view.emb x = rowIx (up o d) x :=
  emb_rows _ _ (off1_blk d o) _ x
theorem gRows_emb (d : Dev nD) (x : S32x1024.Idx) : (gRows d).view.emb x = rowIx d x :=
  emb_rows _ _ (off3_blk d) _ x

theorem pRows_set (d : Dev nD) (o : Fin 31) : (pRows d o).view.set = rowSet (up o d) :=
  (View.set_slice_whole cc0_scratch0 _).trans (set_rows _ _ (off1_blk d o) _)
theorem gRows_set (d : Dev nD) : (gRows d).view.set = rowSet d :=
  (View.set_slice_whole cc0_scratch1 _).trans (set_rows _ _ (off3_blk d) _)
theorem oAcc_set (d : Dev nD) : (oM.access (rD d)).set = rowSet d :=
  (View.set_slice_whole cc0_stg2_0 _).trans (set_rows _ _ (off2_blk d) _)
theorem gAcc_set (d : Dev nD) : (gM.access (rD d)).set = rowSet d :=
  (View.set_slice_whole cc0_scratch1 _).trans (set_rows _ _ (off2_blk d) _)
theorem gAcc_emb (d : Dev nD) (x : S32x1024.Idx) : (gM.access (rD d)).emb x = rowIx d x :=
  emb_rows _ _ (off2_blk d) _ x
theorem oAcc_emb (d : Dev nD) (x : S32x1024.Idx) : (oM.access (rD d)).emb x = rowIx d x :=
  emb_rows _ _ (off2_blk d) _ x

/-! ## Landing slots -/

/-- The place of index `x` of slot `o`. -/
def slotIx (o : Fin 31) (x : S32x1024.Idx) : S31x32x1024.Idx :=
  ix3 o ⟨(x 0).val, (x 0).isLt⟩ ⟨(x 1).val, (x 1).isLt⟩

theorem sSlot_emb (o : Fin 31) (x : S32x1024.Idx) : (sSlot o).view.emb x = slotIx o x := by
  have e : (sSlot o).view.emb x = (Rect.unit (s := S31x32x1024) ![o.val, 0, 0] S1x32x1024.size (row_inb o)).emb
      (Shape.reshapeEquiv (squeezes_S1x32x1024_S32x1024).numel_eq x) := rfl
  rw [e, Shape.reshapeEquiv_cons_one]
  funext a
  match a with
  | ⟨0, _⟩ => exact Fin.ext (show o.val + 1 * 0 = o.val by omega)
  | ⟨1, _⟩ => exact Fin.ext (show 0 + 1 * (x 0).val = (x 0).val by omega)
  | ⟨2, _⟩ => exact Fin.ext (show 0 + 1 * (x 1).val = (x 1).val by omega)

/-- The indices of slot `o`. -/
def slotSet (o : Fin 31) : Finset S31x32x1024.Idx := Finset.univ.filter fun i => (i 0).val = o.val

theorem mem_slotSet {o : Fin 31} {i : S31x32x1024.Idx} : i ∈ slotSet o ↔ (i 0).val = o.val := by
  unfold slotSet; rw [Finset.mem_filter]; exact ⟨fun h => h.2, fun h => ⟨Finset.mem_univ _, h⟩⟩

theorem sSlot_set (o : Fin 31) : (sSlot o).view.set = slotSet o := by
  have e : (sSlot o).view.set = (Rect.unit (s := S31x32x1024) ![o.val, 0, 0] S1x32x1024.size (row_inb o)).set :=
    (View.set_reshape _ _).trans (View.set_slice_whole cc0_scratch2 _)
  rw [e]
  ext i
  rw [Rect.mem_set_unit, mem_slotSet]
  have h1 : (i 1).val < 32 := (i 1).isLt
  have h2 : (i 2).val < 1024 := (i 2).isLt
  constructor
  · intro H
    have h0 : o.val ≤ (i 0).val ∧ (i 0).val < o.val + 1 := H 0
    omega
  · intro H a
    match a with
    | ⟨0, _⟩ => exact (show o.val ≤ (i 0).val ∧ (i 0).val < o.val + 1 by omega)
    | ⟨1, _⟩ => exact (show 0 ≤ (i 1).val ∧ (i 1).val < 0 + 32 by omega)
    | ⟨2, _⟩ => exact (show 0 ≤ (i 2).val ∧ (i 2).val < 0 + 1024 by omega)

theorem slotSet_disj (o o' : Fin 31) (h : o ≠ o') : Disjoint (slotSet o) (slotSet o') :=
  Finset.disjoint_left.mpr fun i hi hi' => h (Fin.ext ((mem_slotSet.mp hi).symm.trans (mem_slotSet.mp hi')))
theorem slotSet_cover : (Finset.univ.biUnion slotSet : Finset S31x32x1024.Idx) = Finset.univ :=
  Finset.eq_univ_iff_forall.mpr fun i => Finset.mem_biUnion.mpr ⟨⟨(i 0).val, (i 0).isLt⟩, Finset.mem_univ _, mem_slotSet.mpr rfl⟩

/-! ## What the transfers write -/

/-- The slots of device `d` once all have landed: slot `o` holds block `d` of the array of the device `o + 1` places behind. -/
def slots {α : Type} (P : Dev nD → S1024x1024.Idx → α) (d : Dev nD) (i : S31x32x1024.Idx) : α :=
  P (dn ⟨(i 0).val, (i 0).isLt⟩ d) (rowIx d (ix2 ⟨(i 1).val, (i 1).isLt⟩ ⟨(i 2).val, (i 2).isLt⟩))

theorem slots_slotIx {α : Type} (P : Dev nD → S1024x1024.Idx → α) (d : Dev nD) (o : Fin 31) (x : S32x1024.Idx) :
    slots P d (slotIx o x) = P (dn o d) (rowIx d x) := by
  unfold slots
  refine congrArg (fun y => P (dn o d) (rowIx d y)) ?_
  funext a
  match a with
  | ⟨0, _⟩ => rfl
  | ⟨1, _⟩ => rfl

/-- The blocks of all devices put together. -/
def gath {α : Type} (R : Dev nD → S32x1024.Idx → α) (i : S1024x1024.Idx) : α := R (blkOf i) (inBlk i)

theorem gath_rowIx {α : Type} (R : Dev nD → S32x1024.Idx → α) (b : Dev nD) (x : S32x1024.Idx) :
    gath R (rowIx b x) = R b x := by unfold gath; rw [blkOf_rowIx, inBlk_rowIx]

omit [FloatOps F] in
/-- A send of rows of the partial product of `c`, landed in slot `o` of the device `o + 1` places ahead. -/
theorem landed_slot (P : Dev nD → S1024x1024.Idx → Elt F .bf16) (c : Dev nD) (o : Fin 31)
    (fd : (sSlot o).view.ty.Contents (Elt F)) (i : S31x32x1024.Idx) (hi : i ∈ slotSet o) :
    (sSlot o).view.write (Elt F) fd ((pRows c o).view.read (Elt F) (P c)) Finset.univ i = slots P (up o c) i := by
  rw [← sSlot_set] at hi
  obtain ⟨x, -, rfl⟩ := Finset.mem_map.mp hi
  rw [View.write_emb_of_mem _ _ (Finset.mem_univ x), cast_eq, View.read_apply, cast_eq, sSlot_emb, pRows_emb, slots_slotIx, dn_up]

omit [FloatOps F] in
/-- A send of the rows of device `c`, landed on the same rows of another device. -/
theorem landed_rows (G : S1024x1024.Idx → Elt F .bf16) (c : Dev nD)
    (fd : (gRows c).view.ty.Contents (Elt F)) (i : S1024x1024.Idx) (hi : i ∈ rowSet c) :
    (gRows c).view.write (Elt F) fd ((gRows c).view.read (Elt F) G) Finset.univ i = G i := by
  rw [← gRows_set] at hi
  obtain ⟨x, -, rfl⟩ := Finset.mem_map.mp hi
  rw [View.write_emb_of_mem _ _ (Finset.mem_univ x), cast_eq, View.read_apply, cast_eq]

omit [FloatOps F] in
/-- A device's own rows, stored. -/
theorem stored_rows (R : Dev nD → S32x1024.Idx → Elt F .bf16) (c : Dev nD)
    (f : (gM.access (rD c)).ty.Contents (Elt F)) (i : S1024x1024.Idx) (hi : i ∈ rowSet c) :
    (gM.access (rD c)).write (Elt F) f (R c) Finset.univ i = gath R i := by
  rw [← gAcc_set] at hi
  obtain ⟨x, -, rfl⟩ := Finset.mem_map.mp hi
  refine (View.write_emb_of_mem _ _ (Finset.mem_univ x)).trans ?_
  rw [cast_eq, gAcc_emb, gath_rowIx]

end Cert.KernelIdeal.Ring

end
-- ==== Proof.Protocol.lean ====
/-
# The protocol

Every device has one barrier semaphore, and for each of the 31 offsets four DMA semaphores: the send and
the receive of its part of the reduction, the send and the receive of the gathered rows. This module says
what each array holds in the run, what each credit of each semaphore hands to the device that waits for it,
and in which order a device may wait.
-/
module

public import proofs.«01_k».proof.Proof.Blocks
public import proofs.«01_k».proof.Proof.Gen.KernelIdeal.Launch
public import proofs.«01_k».proof.Proof.Gen.KernelIdeal.Points
public import Idealize.ShloMosaic.Lib.Rounds
public import Idealize.ShloMosaic.Lib.Ring
public import Idealize.ShloMosaic.Lib.SparseCore.Stream

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resource algebra: the pipeline's, and the ring's with a duty for each offset -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What the arrays hold -/

/-- The device's columns of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- The device's rows of the weights, as staged. -/
def wstg (c : Dev nD) : (cc0_stg1_0 : Ref sig .tc).ty.Contents (Elt F) :=
  (win0_1.blk (0 : Fin 1)).view.read (Elt F) ((s₀ m ρ).mem ((c : Thread nD τ).loc main_arg1))
/-- The device's matrix product. -/
def acc (c : Dev nD) : S1024x1024.Idx → Elt F .f32 := k0_pay2 (xstg m ρ c) (wstg m ρ c)
/-- That product, rounded: what is sent to be reduced. -/
def part (c : Dev nD) : S1024x1024.Idx → Elt F .bf16 := k0_pay3 (acc m ρ c)
/-- The rows of its product the device keeps and reduces. -/
def own (c : Dev nD) : S32x1024.Idx → Elt F .f32 := fun x => acc m ρ c (rowIx c x)
/-- The rows of the result the device computes. -/
def outRows (c : Dev nD) : S32x1024.Idx → Elt F .bf16 := k0_pay4 (own m ρ c) (slots (part m ρ) c)
/-- All rows of the result put together. -/
def gAll : S1024x1024.Idx → Elt F .bf16 := gath (outRows m ρ)
/-- The result, widened. -/
def outAt : S1024x1024.Idx → Elt F .f32 := k0_pay1 (gAll m ρ)

/-! ## The cells -/

/-- DMA semaphore of kind `a` (0: part sent, 1: part received, 2: rows sent, 3: rows received) and offset `o`. -/
def dsem (a : Fin 4) (o : Fin 31) : DmaSem sig :=
  ⟨3 + 31 * a.val + o.val, by have := a.isLt; have := o.isLt; show _ < 127; omega⟩

theorem sem3_eq : ∀ o : Fin 31, semAt cc0_scratch3 o = dsem 0 o := by decide +kernel
theorem sem4_eq : ∀ o : Fin 31, semAt cc0_scratch4 o = dsem 1 o := by decide +kernel
theorem sem5_eq : ∀ o : Fin 31, semAt cc0_scratch5 o = dsem 2 o := by decide +kernel
theorem sem6_eq : ∀ o : Fin 31, semAt cc0_scratch6 o = dsem 3 o := by decide +kernel

/-- The ring's semaphores of a device: the barrier, and one of each kind for each offset. -/
abbrev CI : Type := Option (Fin 4 × Fin 31)

abbrev csem : CI → SemLoc sig
  | none => .reg barS
  | some ao => .dma (dsem ao.1 ao.2)

abbrev barCell (c : Dev nD) : GSem nD τ sig := ((c : Thread nD τ), .reg barS)
abbrev dcell (a : Fin 4) (o : Fin 31) (c : Dev nD) : GSem nD τ sig := ((c : Thread nD τ), .dma (dsem a o))
abbrev kcell (ck : Dev nD × CI) : GSem nD τ sig := ((ck.1 : Thread nD τ), csem ck.2)

/-- Which of the ring's semaphores a semaphore is, if any. -/
def idxOf : SemLoc sig → Option CI
  | .reg s => if s = barS then some none else none
  | .dma q => if 3 ≤ q.val then
      some (some (⟨(q.val - 3) / 31, by have h : q.val < 127 := q.isLt; omega⟩, ⟨(q.val - 3) % 31, Nat.mod_lt _ (by decide)⟩)) else none

theorem idxOf_bar : idxOf (.reg barS) = some none := by unfold idxOf; exact if_pos rfl
theorem idxOf_dma (a : Fin 4) (o : Fin 31) : idxOf (.dma (dsem a o)) = some (some (a, o)) := by
  have ha := a.isLt; have ho := o.isLt
  unfold idxOf dsem
  dsimp only
  rw [if_pos (by omega)]
  refine congrArg (fun y => some (some y)) (Prod.ext (Fin.ext ?_) (Fin.ext ?_))
  · show (3 + 31 * a.val + o.val - 3) / 31 = a.val; omega
  · show (3 + 31 * a.val + o.val - 3) % 31 = o.val; omega
theorem idxOf_csem : ∀ i : CI, idxOf (csem i) = some i
  | none => idxOf_bar
  | some ao => idxOf_dma ao.1 ao.2
/-- The semaphores of the pipeline's own copies are none of the ring's. -/
theorem idxOf_stage (q : DmaSem sig) (h : q.val < 3) : idxOf (.dma q) = none := by
  unfold idxOf; dsimp only; rw [if_neg (by omega)]

theorem csem_inj : Function.Injective csem := fun i j h => by
  have := idxOf_csem i; rw [h, idxOf_csem j] at this; exact (Option.some.inj this).symm

/-- What one transfer of 32 rows credits. -/
abbrev N : ℕ := (sSlot 0).view.dmaCredit
theorem N_pos : 0 < N := View.dmaCredit_pos _ (by decide)
theorem credit_slot (o : Fin 31) : (sSlot o).view.dmaCredit = N := rfl
theorem credit_part (d : Dev nD) (o : Fin 31) : (pRows d o).view.dmaCredit = N := rfl
theorem credit_rows (d : Dev nD) : (gRows d).view.dmaCredit = N := rfl

/-! ## The schedule -/

/-- The share of its own rows of the result a device lends to its send at offset `o`. -/
abbrev lend (o : Fin 31) : PosShare TreeShare := pieceOf fullShare 31 (by decide) o

/-- Some contents of slot `o` of device `c`. -/
def anySlot (o : Fin 31) (c : Dev nD) : sProp 𝕄 :=
  iprop(∃ f : Buf (Elt F) ((c : Thread nD τ).loc cc0_scratch2), ((c : Thread nD τ).loc cc0_scratch2) ↦[slotSet o]{fullShare} f)
/-- Some contents of block `b` of the gathered result on device `c`. -/
def anyRows (b c : Dev nD) : sProp 𝕄 :=
  iprop(∃ f : Buf (Elt F) ((c : Thread nD τ).loc cc0_scratch1), ((c : Thread nD τ).loc cc0_scratch1) ↦[rowSet b]{fullShare} f)

/-- What the signal of the device `o + 1` places ahead hands `c`: its landing slot `o`, and block `c` of its gathered result. -/
def barPay (c : Dev nD) (o : Fin 31) : sProp 𝕄 := iprop(anySlot (F := F) o (up o c) ∗ anyRows (F := F) c (up o c))

/-- What a transfer's credit hands `c`: a part sent comes back; a part received is in its slot; the lent share of the rows
    sent comes back; the rows received are those of the device `o + 1` places behind. -/
def pay (a : Fin 4) (o : Fin 31) (c : Dev nD) : sProp 𝕄 :=
  match a with
  | 0 => ((c : Thread nD τ).loc cc0_scratch0) ↦[rowSet (up o c)]{fullShare} part m ρ c
  | 1 => ((c : Thread nD τ).loc cc0_scratch2) ↦[slotSet o]{fullShare} slots (part m ρ) c
  | 2 => ((c : Thread nD τ).loc cc0_scratch1) ↦[rowSet c]{lend o} gAll m ρ
  | 3 => ((c : Thread nD τ).loc cc0_scratch1) ↦[rowSet (dn o c)]{fullShare} gAll m ρ

instance anySlot_storable (o : Fin 31) (c : Dev nD) : BI.Storable (upEmb : UEmb _ 𝕄) (anySlot (F := F) o c) := by
  unfold anySlot; infer_instance
instance anyRows_storable (b c : Dev nD) : BI.Storable (upEmb : UEmb _ 𝕄) (anyRows (F := F) b c) := by
  unfold anyRows; infer_instance
instance barPay_storable (c : Dev nD) (o : Fin 31) : BI.Storable (upEmb : UEmb _ 𝕄) (barPay (F := F) c o) := by
  unfold barPay; infer_instance
instance pay_storable (a : Fin 4) (o : Fin 31) (c : Dev nD) : BI.Storable (upEmb : UEmb _ 𝕄) (pay m ρ a o c) := by
  unfold pay; split <;> infer_instance

/-- The duties of a semaphore in the one round: a barrier has one for each offset, a DMA semaphore one. -/
def dutiesOf : Option CI → Finset (Fin 31)
  | some none => Finset.univ
  | some (some _) => {0}
  | none => ∅
def amountOf' : Option CI → ℕ
  | some none => 1
  | _ => N
def payOf (c : Dev nD) (d : Fin 31) : Option CI → sProp 𝕄
  | some none => barPay c d
  | some (some ao) => pay m ρ ao.1 ao.2 c
  | none => iprop(emp)

/-- One round, round 0. -/
def ringRd : Rounds.Schedule (GSem nD τ sig) (Fin 31) 𝕄 where
  duties g r := if r = 0 ∧ g.1.2 = .tc then dutiesOf (idxOf g.2) else ∅
  unitless _ := False
  amount g _ _ := amountOf' (idxOf g.2)
  payload g _ d := payOf m ρ g.1.1 d (idxOf g.2)
  amount_pos g _ _ _ := by
    rcases idxOf g.2 with _ | _ | _
    · exact N_pos
    · exact Nat.one_pos
    · exact N_pos

instance ringRd_payload_storable (g : GSem nD τ sig) (r : ℕ) (d : Fin 31) :
    BI.Storable (upEmb : UEmb _ 𝕄) ((ringRd (F := F) m ρ).payload g r d) := by
  show BI.Storable upEmb (payOf m ρ g.1.1 d (idxOf g.2))
  unfold payOf
  split <;> infer_instance

section Sched
variable (c : Dev nD) (a : Fin 4) (o : Fin 31)

theorem duties_cell (i : CI) : (ringRd (F := F) m ρ).duties (kcell (c, i)) 0 = dutiesOf (some i) := by
  dsimp only [ringRd]; rw [if_pos ⟨rfl, rfl⟩, idxOf_csem]
theorem duties_bar : (ringRd (F := F) m ρ).duties (barCell c) 0 = Finset.univ := duties_cell m ρ c none
theorem duties_dma : (ringRd (F := F) m ρ).duties (dcell a o c) 0 = {0} := duties_cell m ρ c (some (a, o))
theorem duties_later (g : GSem nD τ sig) : ∀ r, 1 ≤ r → (ringRd (F := F) m ρ).duties g r = ∅ :=
  fun r hr => by dsimp only [ringRd]; rw [if_neg fun h => by omega]

theorem amount_bar (d : Fin 31) : (ringRd (F := F) m ρ).amount (barCell c) 0 d = 1 := by
  dsimp only [ringRd]; rw [idxOf_bar]; rfl
theorem amount_dma (d : Fin 31) : (ringRd (F := F) m ρ).amount (dcell a o c) 0 d = N := by
  dsimp only [ringRd]; rw [idxOf_dma]; rfl

theorem expect_bar : (ringRd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_dma : (ringRd (F := F) m ρ).expect (dcell a o c) 0 = N := by
  unfold Schedule.expect Schedule.amountOf; rw [duties_dma, Finset.sum_singleton, amount_dma]

theorem payload_bar (d : Fin 31) : (ringRd (F := F) m ρ).payload (barCell c) 0 d = barPay c d := by
  dsimp only [ringRd]; rw [idxOf_bar]; rfl
theorem payload_dma (d : Fin 31) : (ringRd (F := F) m ρ).payload (dcell a o c) 0 d = pay m ρ a o c := by
  dsimp only [ringRd]; rw [idxOf_dma]; rfl

/-- All a barrier's round hands over. -/
theorem rest_bar : bigSep ((ringRd (F := F) m ρ).duties (barCell c) 0 \ ∅) (fun d => (ringRd (F := F) m ρ).payload (barCell c) 0 d)
    = bigSep Finset.univ fun o => barPay (F := F) c o := by
  rw [Finset.sdiff_empty, duties_bar]; exact bigSep_congr fun d _ => payload_bar m ρ c d
/-- All a DMA semaphore's round hands over. -/
theorem rest_dma : bigSep ((ringRd (F := F) m ρ).duties (dcell a o c) 0 \ ∅) (fun d => (ringRd (F := F) m ρ).payload (dcell a o c) 0 d)
    = pay m ρ a o c := by
  rw [Finset.sdiff_empty, duties_dma, bigSep_singleton, payload_dma]

end Sched

/-! ## What each device owes at launch; the levels -/

/-- A debt together with one for each entry of a list, the first entry outermost. -/
def tot {ι : Type} (O : CellTallies nD τ sig Unit) (l : List ι) (f : ι → CellTallies nD τ sig Unit) : CellTallies nD τ sig Unit :=
  match l with
  | [] => O
  | i :: l => tot O l f + f i

/-- The debt of one credit at the device `o + 1` places ahead: of its barrier, of a part, of gathered rows. -/
abbrev owBar (c : Dev nD) (o : Fin 31) : CellTallies nD τ sig Unit := tallyAt (barCell (up o c)) () 1
abbrev owPart (c : Dev nD) (o : Fin 31) : CellTallies nD τ sig Unit := tallyAt (dcell 1 o (up o c)) () N
abbrev owRows (c : Dev nD) (o : Fin 31) : CellTallies nD τ sig Unit := tallyAt (dcell 3 o (up o c)) () N

/-- What is owed from the first send of gathered rows on; from the first send of a part on; at launch. -/
def Og (c : Dev nD) : CellTallies nD τ sig Unit := tot 0 offs (owRows c)
def Op (c : Dev nD) : CellTallies nD τ sig Unit := tot (Og c) offs (owPart c)
def O₀ (c : Dev nD) : CellTallies nD τ sig Unit := tot (Op c) offs (owBar c)

/-- Every thread waits under its one index, on a TensorCore. -/
def L (g : GSem nD τ sig) : Finset Unit := if g.1.2 = .tc then {()} else ∅
/-- The order in which a device may wait: pipeline copies and sends, then its barrier, its parts, its gathered rows. -/
def lvOf : Option CI → ℕ
  | some none => 1
  | some (some (1, _)) => 2
  | some (some (3, _)) => 3
  | _ => 0
def lv (g : GSem nD τ sig) (_ : Unit) : ℕ := lvOf (idxOf g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to a TensorCore's semaphore of a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_at (n : ℕ) (c : Dev nD) (i : CI) (k : ℕ) (h : n < lvOf (some i)) : Above n (tallyAt (kcell (c, i)) () k) :=
  fun g u hg => by
    rw [tallyAt_apply] at hg
    by_cases hc : g = kcell (c, i) ∧ u = ()
    · rw [hc.1]; exact ⟨rfl, by unfold lv; rw [idxOf_csem]; exact h⟩
    · rw [if_neg hc] at hg; exact absurd hg (Nat.lt_irrefl 0)
theorem above_add {n : ℕ} {O O' : CellTallies nD τ sig Unit} (h : Above n O) (h' : Above n O') : Above n (O + O') :=
  fun g u hg => by
    rw [Pi.add_apply, Finsupp.add_apply] at hg
    rcases Nat.eq_zero_or_pos (O g u) with e | e
    · exact h' g u (by rwa [e, Nat.zero_add] at hg)
    · exact h g u e
theorem above_tot {ι : Type} {n : ℕ} {O : CellTallies nD τ sig Unit} {f : ι → CellTallies nD τ sig Unit} (h : Above n O)
    (h' : ∀ i, Above n (f i)) : ∀ l : List ι, Above n (tot O l f)
  | [] => h
  | i :: l => above_add (above_tot h h' l) (h' i)
theorem above_mono {n n' : ℕ} (hn : n ≤ n') {O : CellTallies nD τ sig Unit} (h : Above n' O) : Above n O :=
  fun g u hg => ⟨(h g u hg).1, lt_of_le_of_lt hn (h g u hg).2⟩

theorem above_Og (c : Dev nD) : Above 2 (Og c) :=
  above_tot (above_zero 2) (fun o => above_at 2 (up o c) (some (3, o)) N (show 2 < 3 by decide)) _
theorem above_Op (c : Dev nD) : Above 1 (Op c) :=
  above_tot (above_mono (by decide) (above_Og c)) (fun o => above_at 1 (up o c) (some (1, o)) N (show 1 < 2 by decide)) _
theorem above_O₀ (c : Dev nD) : Above 0 (O₀ c) :=
  above_tot (above_mono (by decide) (above_Op c)) (fun o => above_at 0 (up o c) none 1 (by decide)) _

/-- A device may wait on a semaphore of a level below all it owes. -/
theorem mayWait (c : Dev nD) (sm : SemLoc sig) {n : ℕ} {O : CellTallies nD τ sig Unit} (hs : lvOf (idxOf sm) ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

/-! ## What a device's body starts from -/

/-- The invariant of every cell of the ring, under the names `K`, and that every cell has reached its round. -/
def records (K : Dev nD × CI → ℕ) : sProp 𝕄 :=
  bigSep Finset.univ fun ck : Dev nD × CI => iprop(cellInv ER (ringRd m ρ) (K ck) (kcell ck) ∗ reached ER (kcell ck) 0)

instance records_persistent (K : Dev nD × CI → ℕ) : BI.Persistent (records m ρ K) := by unfold records; infer_instance

/-- The tokens a device pays with: at each offset its barrier signal, its part (sent, received), its rows (sent, received). -/
def payToks (c : Dev nD) : sProp 𝕄 :=
  iprop((bigSep Finset.univ fun o : Fin 31 => dutyTok (ER (F := F)) (barCell (up o c)) 0 (rev o))
    ∗ (bigSep Finset.univ fun o : Fin 31 => dutyTok (ER (F := F)) (dcell 0 o c) 0 0)
    ∗ (bigSep Finset.univ fun o : Fin 31 => dutyTok (ER (F := F)) (dcell 1 o (up o c)) 0 0)
    ∗ (bigSep Finset.univ fun o : Fin 31 => dutyTok (ER (F := F)) (dcell 2 o c) 0 0)
    ∗ (bigSep Finset.univ fun o : Fin 31 => dutyTok (ER (F := F)) (dcell 3 o (up o c)) 0 0))

/-- Its positions, at the start of every cell of its own. -/
def positions (c : Dev nD) : sProp 𝕄 := bigSep Finset.univ fun i : CI => atPos (ER (F := F)) (kcell (c, i)) 0 ∅ 0

def ghost (K : Dev nD × CI → ℕ) (c : Dev nD) : sProp 𝕄 := iprop(records m ρ K ∗ positions (F := F) c ∗ payToks (F := F) c)

/-- The credits it may wait for from the start: its barrier's 31 units, and each receive's. -/
def creds (c : Dev nD) : sProp 𝕄 :=
  iprop(cred (tallyAt (barCell c) () 31) ∗ (bigSep Finset.univ fun o : Fin 31 => cred (tallyAt (dcell 1 o c) () N))
    ∗ (bigSep Finset.univ fun o : Fin 31 => cred (tallyAt (dcell 3 o c) () N)))

def start (c : Dev nD) : sProp 𝕄 := iprop((∃ K, ghost m ρ K c) ∗ creds (F := F) c ∗ levAts L lv)

/-- Some contents of the three scratch buffers. -/
def anyScratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def Φ₀ (c : Dev nD) : sProp 𝕄 := iprop(start m ρ c ∗ anyScratch (F := F) c)
/-- After the body: the scratch buffers at some contents, and every cell of the device's own closed at zero. -/
def Φ₁ (c : Dev nD) : sProp 𝕄 := iprop(anyScratch (F := F) c ∗ bigSep Finset.univ fun i : CI => semVal (kcell (c, i)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Ring

end
-- ==== Proof.Loops.lean ====
/-
# Loops and families

The rule for a loop over the offsets: one step's rule gives the loop's, the debt going down entry by entry
while a resource of each entry is turned into another. And how a family over the devices, or over a device's
semaphores, splits into its parts.
-/
module

public import proofs.«01_k».proof.Proof.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

/-- A family over a list, in order. -/
def all {ι : Type} (l : List ι) (Φ : ι → sProp 𝕄) : sProp 𝕄 :=
  match l with
  | [] => iprop(emp)
  | i :: l => iprop(Φ i ∗ all l Φ)

theorem all_toFinset {ι : Type} [DecidableEq ι] (Φ : ι → sProp 𝕄) : ∀ l : List ι, l.Nodup → bigSep l.toFinset Φ = all l Φ
  | [], _ => by rw [List.toFinset_nil, bigSep_empty]; rfl
  | i :: l, h => by
    rw [List.toFinset_cons, bigSep_insert (fun hi => (List.nodup_cons.mp h).1 (List.mem_toFinset.mp hi)),
      all_toFinset Φ l (List.nodup_cons.mp h).2]
    rfl

/-- A family over the 31 offsets, in order. -/
theorem all_offs (Φ : Fin 31 → sProp 𝕄) : bigSep Finset.univ Φ = all offs Φ := by
  rw [← all_toFinset Φ offs (by decide)]
  exact congrArg (fun s => bigSep s Φ) (by decide)

theorem split_option {ι : Type} [Fintype ι] (Φ : Option ι → sProp 𝕄) :
    bigSep Finset.univ Φ = iprop(Φ none ∗ bigSep Finset.univ fun i => Φ (some i)) := by
  rw [bigSep_univ_equiv (Equiv.optionEquivSumPUnit.{0} ι).symm Φ, bigSep_univ_sum,
    bigSep_univ_of_subsingleton (I := PUnit.{1}) PUnit.unit]
  exact BI.Entails.antisymm sep_comm sep_comm

/-- A family over the devices: at `c`, and at each device ahead of it. -/
theorem split_dev (c : Dev nD) (Φ : Dev nD → sProp 𝕄) :
    bigSep Finset.univ Φ = iprop(Φ c ∗ bigSep Finset.univ fun o : Fin 31 => Φ (up o c)) := by
  rw [bigSep_univ_equiv (around c) Φ, split_option]; rfl

/-- The offsets may be turned round. -/
theorem turn (Φ : Fin 31 → sProp 𝕄) : bigSep Finset.univ Φ = bigSep Finset.univ fun o => Φ (rev o) :=
  bigSep_univ_equiv revE Φ

/-- A family over the devices: at `c`, and at each device behind it. -/
theorem split_dev_dn (c : Dev nD) (Φ : Dev nD → sProp 𝕄) :
    bigSep Finset.univ Φ = iprop(Φ c ∗ bigSep Finset.univ fun o : Fin 31 => Φ (dn o c)) := by
  rw [split_dev c, turn fun o => Φ (up o c)]
  simp only [up_rev]

/-- A family over a device's semaphores: the barrier's, and the four kinds'. -/
theorem split_sems (Φ : CI → sProp 𝕄) :
    bigSep Finset.univ Φ = iprop(Φ none ∗ (bigSep Finset.univ fun o : Fin 31 => Φ (some (0, o)))
      ∗ (bigSep Finset.univ fun o : Fin 31 => Φ (some (1, o))) ∗ (bigSep Finset.univ fun o : Fin 31 => Φ (some (2, o)))
      ∗ (bigSep Finset.univ fun o : Fin 31 => Φ (some (3, o)))) := by
  rw [split_option, bigSep_univ_prod, bigSep_univ_eq_bigSepL [0, 1, 2, 3] (by decide) (by decide)]
  rfl

/-! ## The loop rule -/

/-- The weakest precondition of a part of device `c`'s body. -/
abbrev Wp (c : Dev nD) (Q : PUnit → sProp 𝕄) (p : Prog (Eff F) PUnit) : sProp 𝕄 :=
  wp frame (wpE (defs₀ (F := F)) 𝒱₀ (c : Thread nD τ) none) Set.univ p Q

theorem wp_loop (c : Dev nD) (Q : PUnit → sProp 𝕄) {ι : Type} (step : ι → Prog (Eff F) PUnit → Prog (Eff F) PUnit)
    (R : sProp 𝕄) [BI.Persistent R] (I : List ι → sProp 𝕄) (A B : ι → sProp 𝕄)
    (hstep : ∀ i l k, iprop(R ∗ I (i :: l) ∗ A i) ⊢ iprop(((I l ∗ B i) -∗ Wp c Q k) -∗ Wp c Q (step i k)))
    (k : Prog (Eff F) PUnit) :
    ∀ l : List ι, iprop(R ∗ I l ∗ all l A) ⊢ iprop(((I [] ∗ all l B) -∗ Wp c Q k) -∗ Wp c Q (loop l step k))
  | [] => by
    show iprop(R ∗ I [] ∗ emp) ⊢ iprop(((I [] ∗ emp) -∗ Wp c Q k) -∗ Wp c Q k)
    iintro ⟨-, HI, -⟩ Hk
    iapply Hk
    isplitl [HI]; · iexact HI
    iempintro
  | i :: l => by
    show iprop(R ∗ I (i :: l) ∗ A i ∗ all l A)
      ⊢ iprop(((I [] ∗ B i ∗ all l B) -∗ Wp c Q k) -∗ Wp c Q (step i (loop l step k)))
    iintro ⟨#HR, HI, HA, Hall⟩ Hk
    iapply (hstep i l (loop l step k)) $$ [HI HA]
    · isplitr; · iexact HR
      isplitl [HI]; · iexact HI
      iexact HA
    iintro ⟨HI, HB⟩
    iapply (wp_loop c Q step R I A B hstep k l) $$ [HI Hall]
    · isplitr; · iexact HR
      isplitl [HI]; · iexact HI
      iexact Hall
    iintro ⟨HI, HBs⟩
    iapply Hk
    isplitl [HI]; · iexact HI
    isplitl [HB]; · iexact HB
    iexact HBs

/-- The rule over the 31 offsets, the resources as families over them. -/
theorem wp_offs (c : Dev nD) (Q : PUnit → sProp 𝕄) (step : Fin 31 → Prog (Eff F) PUnit → Prog (Eff F) PUnit)
    (R : sProp 𝕄) [BI.Persistent R] (I : List (Fin 31) → sProp 𝕄) (A B : Fin 31 → sProp 𝕄)
    (hstep : ∀ i l k, iprop(R ∗ I (i :: l) ∗ A i) ⊢ iprop(((I l ∗ B i) -∗ Wp c Q k) -∗ Wp c Q (step i k)))
    (k : Prog (Eff F) PUnit) :
    iprop(R ∗ I offs ∗ bigSep Finset.univ A)
      ⊢ iprop(((I [] ∗ bigSep Finset.univ B) -∗ Wp c Q k) -∗ Wp c Q (loop offs step k)) := by
  rw [all_offs A, all_offs B]
  exact wp_loop c Q step R I A B hstep k offs

end Cert.KernelIdeal.Ring

end
-- ==== Proof.Steps.lean ====
/-
# The steps of the body

The rule for each loop of the kernel's body and for the two straight parts, on a symbolic device.
-/
module

public import proofs.«01_k».proof.Proof.Loops

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- What every step may use: the ring's invariants and the levels. -/
def ctx : sProp 𝕄 := iprop(records m ρ K ∗ levAts L lv)
instance ctx_persistent : BI.Persistent (ctx m ρ K) := by unfold ctx; infer_instance

theorem ctx_records : ctx m ρ K ⊢ records m ρ K := by unfold ctx; iintro ⟨H, -⟩; iexact H
theorem ctx_levels : ctx m ρ K ⊢ levAts L lv := by unfold ctx; iintro ⟨-, H⟩; iexact H
set_option maxRecDepth 20000 in
theorem mayWait_ctx (sm : SemLoc sig) {n : ℕ} {O : CellTallies nD τ sig Unit} (hs : lvOf (idxOf sm) ≤ n) (h : Above n O) :
    ctx m ρ K ⊢ MayWait (c : Thread nD τ) sm () O :=
  (ctx_levels m ρ K).trans (mayWait c sm hs h)
theorem inv_at (ck : Dev nD × CI) : ctx m ρ K ⊢ cellInv ER (ringRd m ρ) (K ck) (kcell ck) := by
  refine (ctx_records m ρ K).trans ((bigSep_elim (Finset.mem_univ ck)).trans (sep_and.trans and_elimL))
theorem reached_at (ck : Dev nD × CI) : ctx m ρ K ⊢ reached (ER (F := F)) (kcell ck) 0 := by
  refine (ctx_records m ρ K).trans ((bigSep_elim (Finset.mem_univ ck)).trans (sep_and.trans and_elimR))

/-- What the device owes, whatever it has waited for so far. -/
def owing (O : CellTallies nD τ sig Unit) : sProp 𝕄 := iprop(∃ W, owes (c : Thread nD τ) O W)

/-! ## The signals -/

theorem step_signal (Q : PUnit → sProp 𝕄) (o : Fin 31) (l : List (Fin 31)) (k : Prog (Eff F) PUnit) :
    iprop(ctx m ρ K ∗ owing (F := F) c (tot (Op c) (o :: l) (owBar c))
        ∗ (dutyTok (ER (F := F)) (barCell (up o c)) 0 (rev o) ∗ anySlot (F := F) (rev o) c ∗ anyRows (F := F) (up o c) c))
      ⊢ iprop(((owing (F := F) c (tot (Op c) l (owBar c)) ∗ emp) -∗ Wp c Q k) -∗ Wp c Q (.op (sigOp c o) fun _ => k)) := by
  unfold owing sigOp
  rw [devAt_eq]
  iintro ⟨#HR, ⟨%W, HO⟩, Ht, Hs, Hg⟩ Hk
  ihave HI := (inv_at m ρ K (up o c, none)) $$ HR
  ihave Hr := (reached_at m ρ K (up o c, none)) $$ HR
  iapply (Rounds.wp_signal 𝒱₀ ER (ringRd m ρ) (c : Thread nD τ) none (dst := (up o c : Thread nD τ)) (κ := K (up o c, none))
      (d := rev o) (by rw [duties_bar]; exact Finset.mem_univ _) ((amount_bar m ρ (up o c) (rev o)).trans (by decide)) ()
      (tot (Op c) l (owBar c)) rfl)
    $$ [HI Hr HO Ht Hs Hg]
  · isplitl [HI]; · iexact HI
    isplitl [HO]; · iexact HO
    isplitl [Ht]; · iexact Ht
    isplitl [Hs Hg]
    · rw [payload_bar]; unfold barPay; rw [up_rev, dn_up]
      isplitl [Hs]; · iexact Hs
      iexact Hg
    iexact Hr
  iintro HO
  iapply Hk
  isplitl [HO]
  · iexists W; iexact HO
  iempintro

/-! ## The waits -/

/-- The wait on the barrier: every other device's landing slot and block of rows; the barrier closes. -/
theorem wait_bar (Q : PUnit → sProp 𝕄) (k : Prog (Eff F) PUnit) :
    iprop(ctx m ρ K ∗ owing (F := F) c (Op c) ∗ cred (tallyAt (barCell c) () 31) ∗ atPos (ER (F := F)) (barCell c) 0 ∅ 0)
      ⊢ iprop(((owing (F := F) c (Op c) ∗ semVal (barCell c) 0 ∗ bigSep Finset.univ fun o => barPay (F := F) c o) -∗ Wp c Q k)
        -∗ Wp c Q (.op (.semWait barS (31#32 : BitVec 32).toInt) fun _ => k)) := by
  unfold owing
  iintro ⟨#HR, ⟨%W, HO⟩, Hc, Hat⟩ Hk
  ihave #HI := (inv_at m ρ K (c, none)) $$ HR
  iapply (Rounds.wp_wait_rest_token 𝒱₀ ER (ringRd m ρ) (c : Thread nD τ) none (κ := K (c, none))
      (wpE_semWait_eq 𝒱₀ (c : Thread nD τ) none Set.univ) (Set.mem_univ _) () (O := Op c) (W := W) (R := 0) (m := 0) (T := ∅)
      (by rw [expect_bar]; decide)) $$ [Hc HO Hat]
  · isplitr; · iexact HI
    isplitl [Hc]; · iexact Hc
    isplitl [HO]; · iexact HO
    isplitr; · iapply (mayWait_ctx m ρ K c (.reg barS) (n := 1) (by rw [idxOf_bar]; exact Nat.le_refl 1) (above_Op c)); iexact HR
    iexact Hat
  iintro ⟨HO, Hat, -, Hpay⟩
  ihave Hp := (Entails.of_eq (rest_bar m ρ c)) $$ Hpay
  imod (Rounds.cell_close ER (ringRd m ρ) (Set.mem_univ (K (c, none))) (fun h => h) (R := 0 + 1) (duties_later m ρ (barCell c))) $$ [Hat] with Hz
  · isplitr; · iexact HI
    iexact Hat
  iapply Hk
  isplitl [HO]
  · iexists (insert (SemLoc.reg barS, ()) W); iexact HO
  isplitl [Hz]; · iexact Hz
  iexact Hp

/-- A wait on a DMA semaphore, all owed above it: what its one transfer hands over; the semaphore closes. -/
theorem wait_dma (Q : PUnit → sProp 𝕄) (a : Fin 4) (o : Fin 31) {q : DmaSem sig} (hq : q = dsem a o) {sp sp' : Space} {s s' : Shape} {e e' : EltTy}
    {src : Memref sig .tc sp' s' e'} {dst : Memref sig .tc sp s e} {hsrc : src.view.WordExact} {hdst : dst.view.WordExact}
    (hd : dst.view.dmaCredit = N) {n : ℕ} {O : CellTallies nD τ sig Unit} (hl : lvOf (some (some (a, o))) ≤ n) (hO : Above n O)
    (k : Prog (Eff F) PUnit) :
    iprop(ctx m ρ K ∗ owing (F := F) c O ∗ cred (tallyAt (dcell a o c) () N) ∗ atPos (ER (F := F)) (dcell a o c) 0 ∅ 0)
      ⊢ iprop(((owing (F := F) c O ∗ semVal (dcell a o c) 0 ∗ pay m ρ a o c) -∗ Wp c Q k)
        -∗ Wp c Q (.op (.waitDma2 q src dst hsrc hdst) fun _ => k)) := by
  subst hq
  unfold owing
  iintro ⟨#HR, ⟨%W, HO⟩, Hc, Hat⟩ Hk
  ihave #HI := (inv_at m ρ K (c, some (a, o))) $$ HR
  iapply (Rounds.wp_wait_rest_token 𝒱₀ ER (ringRd m ρ) (c : Thread nD τ) none (κ := K (c, some (a, o)))
      (wpE_waitDma2_eq 𝒱₀ (c : Thread nD τ) none Set.univ) (Set.mem_univ _) () (O := O) (W := W) (R := 0) (m := 0) (T := ∅)
      (by rw [Nat.zero_add, expect_dma, hd])) $$ [Hc HO Hat]
  · isplitr; · iexact HI
    isplitl [Hc]; · rw [hd]; iexact Hc
    isplitl [HO]; · iexact HO
    isplitr; · iapply (mayWait_ctx m ρ K c (.dma (dsem a o)) (n := n) (by rw [idxOf_dma]; exact hl) hO); iexact HR
    iexact Hat
  iintro ⟨HO, Hat, -, Hpay⟩
  ihave Hp := (Entails.of_eq (rest_dma m ρ c a o)) $$ Hpay
  imod (Rounds.cell_close ER (ringRd m ρ) (Set.mem_univ (K (c, some (a, o)))) (fun h => h) (R := 0 + 1) (duties_later m ρ (dcell a o c))) $$ [Hat] with Hz
  · isplitr; · iexact HI
    iexact Hat
  iapply Hk
  isplitl [HO]
  · iexists (insert (SemLoc.dma (dsem a o), ()) W); iexact HO
  isplitl [Hz]; · iexact Hz
  iexact Hp

/-! ## The sends -/

/-- A send to the device `o + 1` places ahead, on the semaphores of kinds `a` here and `b` there: the source's share goes, to come
    back with the send's credit; what lands makes the receive's. -/
theorem send_dma (Q : PUnit → sProp 𝕄) (a b : Fin 4) (o : Fin 31) {d : Dev nD} (hd : d = up o c) {qs qr : DmaSem sig} (hqs : qs = dsem a o) (hqr : qr = dsem b o)
    {src : Memref sig .tc .vmem S32x1024 .bf16} {dst : Memref sig .tc .vmem S32x1024 .bf16}
    {hsc : (dst : Memref sig (Dev.tc d : Thread nD τ).2.kind .vmem S32x1024 .bf16).view.ref.isScScratch = false}
    {hsrc : src.view.WordExact} {hdst : dst.view.WordExact}
    {hsem : DmaTarget.Typed .vmem (.dma qr) (.remote (Dev.tc d : Thread nD τ) dst (.dma qs) hsc)}
    (hN : dst.view.dmaCredit = N) {O₁ O : CellTallies nD τ sig Unit} (hO : O₁ = O + tallyAt (dcell b o (up o c)) () N)
    {q : PosShare TreeShare} {fs : Buf (Elt F) (src.view.loc (c : Thread nD τ))} {fd : Buf (Elt F) (dst.view.loc (up o c : Thread nD τ))}
    (hp₁ : (src.view.loc (c : Thread nD τ) ↦[src.view.set]{q} fs) ⊢ pay m ρ a o c)
    (hp₂ : (dst.view.loc (up o c : Thread nD τ) ↦[dst.view.set]{fullShare}
        (dst.view.write (Elt F) fd (src.view.read (Elt F) fs) Finset.univ)) ⊢ pay m ρ b o (up o c))
    (k : Prog (Eff F) PUnit) :
    iprop(ctx m ρ K ∗ owing (F := F) c O₁ ∗ (src.view.loc (c : Thread nD τ) ↦[src.view.set]{q} fs)
        ∗ (dst.view.loc (up o c : Thread nD τ) ↦[dst.view.set]{fullShare} fd)
        ∗ dutyTok (ER (F := F)) (dcell a o c) 0 0 ∗ dutyTok (ER (F := F)) (dcell b o (up o c)) 0 0)
      ⊢ iprop(((owing (F := F) c O ∗ cred (tallyAt (dcell a o c) () N)) -∗ Wp c Q k)
        -∗ Wp c Q (.op (.enqueueDma src (.remote (Dev.tc d : Thread nD τ) dst (.dma qs) hsc) (.dma qr) hsrc hdst hsem) fun _ => k)) := by
  subst hd; subst hqs; subst hqr
  unfold owing
  iintro ⟨#HR, ⟨%W, HO⟩, Hs, Hd, Ht, Ht'⟩ Hk
  ihave HI := (inv_at m ρ K (c, some (a, o))) $$ HR
  ihave Hr := (reached_at m ρ K (c, some (a, o))) $$ HR
  ihave HI' := (inv_at m ρ K (up o c, some (b, o))) $$ HR
  ihave Hr' := (reached_at m ρ K (up o c, some (b, o))) $$ HR
  iapply (Rounds.wp_send_pointsTo 𝒱₀ ER (ringRd m ρ) (c : Thread nD τ) none (κ₁ := K (c, some (a, o))) (κ₂ := K (up o c, some (b, o)))
    (r₁ := 0) (r₂ := 0) (d₁ := 0) (d₂ := 0) (fd := fd)
    (by rw [duties_dma]; exact Finset.mem_singleton_self _) (by rw [duties_dma]; exact Finset.mem_singleton_self _)
    () () N (show dst.view.amount (.dma (dsem b o)) = N from hN) (amount_dma m ρ c a o 0) (amount_dma m ρ (up o c) b o 0) O hO (W := W)
    (by rw [payload_dma]; exact hp₁) (by rw [payload_dma]; exact hp₂)) $$ [HI HI' Hs Hd HO Ht Hr Ht' Hr']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [HO]
  · iexists W; iexact HO
  iexact Hc

/-- The send of a part to be reduced. -/
theorem step_rsSend (Q : PUnit → sProp 𝕄) (o : Fin 31) (l : List (Fin 31)) (k : Prog (Eff F) PUnit) :
    iprop(ctx m ρ K ∗ owing (F := F) c (tot (Og c) (o :: l) (owPart c))
        ∗ (pay m ρ 0 o c ∗ anySlot (F := F) o (up o c)
          ∗ dutyTok (ER (F := F)) (dcell 0 o c) 0 0 ∗ dutyTok (ER (F := F)) (dcell 1 o (up o c)) 0 0))
      ⊢ iprop(((owing (F := F) c (tot (Og c) l (owPart c)) ∗ cred (tallyAt (dcell 0 o c) () N)) -∗ Wp c Q k)
        -∗ Wp c Q (.op (rsSend c o) fun _ => k)) := by
  unfold anySlot
  iintro ⟨#HR, HO, Hp, ⟨%f, Hs⟩, Ht, Ht'⟩ Hk
  iapply (send_dma m ρ K c Q 0 1 o (devAt_eq c o) (sem3_eq o) (sem4_eq o) (src := pRows c o) (dst := sSlot o) (credit_slot o)
    (O₁ := tot (Og c) (o :: l) (owPart c)) (O := tot (Og c) l (owPart c)) rfl (q := fullShare) (fs := part m ρ c) (fd := f)
    (by rw [pRows_set]; exact BI.Entails.refl _)
    (by rw [sSlot_set]; exact Entails.of_eq (pointsTo_congr fun i hi => landed_slot (part m ρ) c o f i hi)) k)
    $$ [HO Hp Hs Ht Ht']
  · isplitr; · iexact HR
    isplitl [HO]; · iexact HO
    isplitl [Hp]; · rw [pRows_set]; unfold pay; iexact Hp
    isplitl [Hs]; · rw [sSlot_set]; iexact Hs
    isplitl [Ht]; · iexact Ht
    iexact Ht'
  iexact Hk

/-- The send of the device's own rows of the result. -/
theorem step_agSend (Q : PUnit → sProp 𝕄) (o : Fin 31) (l : List (Fin 31)) (k : Prog (Eff F) PUnit) :
    iprop(ctx m ρ K ∗ owing (F := F) c (tot 0 (o :: l) (owRows c))
        ∗ (pay m ρ 2 o c ∗ anyRows (F := F) c (up o c)
          ∗ dutyTok (ER (F := F)) (dcell 2 o c) 0 0 ∗ dutyTok (ER (F := F)) (dcell 3 o (up o c)) 0 0))
      ⊢ iprop(((owing (F := F) c (tot 0 l (owRows c)) ∗ cred (tallyAt (dcell 2 o c) () N)) -∗ Wp c Q k)
        -∗ Wp c Q (.op (agSend c o) fun _ => k)) := by
  unfold anyRows
  iintro ⟨#HR, HO, Hp, ⟨%f, Hs⟩, Ht, Ht'⟩ Hk
  iapply (send_dma m ρ K c Q 2 3 o (devAt_eq c o) (sem5_eq o) (sem6_eq o) (src := gRows c) (dst := gRows c) (credit_rows c)
    (O₁ := tot 0 (o :: l) (owRows c)) (O := tot 0 l (owRows c)) rfl (q := lend o) (fs := gAll m ρ) (fd := f)
    (by rw [gRows_set]; exact BI.Entails.refl _)
    (by
      rw [gRows_set]; unfold pay; rw [dn_up]
      exact Entails.of_eq (pointsTo_congr fun i hi => landed_rows (gAll m ρ) c f i hi)) k)
    $$ [HO Hp Hs Ht Ht']
  · isplitr; · iexact HR
    isplitl [HO]; · iexact HO
    isplitl [Hp]; · rw [gRows_set]; unfold pay; iexact Hp
    isplitl [Hs]; · rw [gRows_set]; iexact Hs
    isplitl [Ht]; · iexact Ht
    iexact Ht'
  iexact Hk

/-! ## The loops of waits -/

/-- A part arrives in its slot. -/
theorem step_rsRecv (Q : PUnit → sProp 𝕄) (o : Fin 31) (l : List (Fin 31)) (k : Prog (Eff F) PUnit) :
    iprop(ctx m ρ K ∗ owing (F := F) c (Og c) ∗ (cred (tallyAt (dcell 1 o c) () N) ∗ atPos (ER (F := F)) (dcell 1 o c) 0 ∅ 0))
      ⊢ iprop(((owing (F := F) c (Og c) ∗ (semVal (dcell 1 o c) 0 ∗ pay m ρ 1 o c)) -∗ Wp c Q k)
        -∗ Wp c Q (.op (rsRecv c o) fun _ => k)) :=
  wait_dma m ρ K c Q 1 o (sem4_eq o) (credit_slot o) (n := 2) (Nat.le_refl 2) (above_Og c) k

/-- The share lent to a send comes back, and the rows of another device arrive. -/
theorem step_ag (Q : PUnit → sProp 𝕄) (o : Fin 31) (l : List (Fin 31)) (k : Prog (Eff F) PUnit) :
    iprop(ctx m ρ K ∗ owing (F := F) c 0
        ∗ (cred (tallyAt (dcell 2 o c) () N) ∗ atPos (ER (F := F)) (dcell 2 o c) 0 ∅ 0
          ∗ cred (tallyAt (dcell 3 o c) () N) ∗ atPos (ER (F := F)) (dcell 3 o c) 0 ∅ 0))
      ⊢ iprop(((owing (F := F) c 0 ∗ (semVal (dcell 2 o c) 0 ∗ pay m ρ 2 o c ∗ semVal (dcell 3 o c) 0 ∗ pay m ρ 3 o c)) -∗ Wp c Q k)
        -∗ Wp c Q (.op (agSent c o) fun _ => .op (agRecv c o) fun _ => k)) := by
  iintro ⟨#HR, HO, Hc, Hat, Hc', Hat'⟩ Hk
  iapply (wait_dma m ρ K c Q 2 o (sem5_eq o) (credit_rows c) (n := 3) (Nat.zero_le 3) (above_zero 3) (.op (agRecv c o) fun _ => k)) $$ [HO Hc Hat]
  · isplitr; · iexact HR
    isplitl [HO]; · iexact HO
    isplitl [Hc]; · iexact Hc
    iexact Hat
  iintro ⟨HO, Hz, Hp⟩
  iapply (wait_dma m ρ K c Q 3 o (sem6_eq o) (credit_rows c) (n := 3) (Nat.le_refl 3) (above_zero 3) k) $$ [HO Hc' Hat']
  · isplitr; · iexact HR
    isplitl [HO]; · iexact HO
    isplitl [Hc']; · iexact Hc'
    iexact Hat'
  iintro ⟨HO, Hz', Hp'⟩
  iapply Hk
  isplitl [HO]; · iexact HO
  isplitl [Hz]; · iexact Hz
  isplitl [Hp]; · iexact Hp
  isplitl [Hz']; · iexact Hz'
  iexact Hp'

/-- A part sent comes back. -/
theorem step_rsSent (Q : PUnit → sProp 𝕄) (o : Fin 31) (l : List (Fin 31)) (k : Prog (Eff F) PUnit) :
    iprop(ctx m ρ K ∗ owing (F := F) c 0 ∗ (cred (tallyAt (dcell 0 o c) () N) ∗ atPos (ER (F := F)) (dcell 0 o c) 0 ∅ 0))
      ⊢ iprop(((owing (F := F) c 0 ∗ (semVal (dcell 0 o c) 0 ∗ pay m ρ 0 o c)) -∗ Wp c Q k)
        -∗ Wp c Q (.op (rsSent c o) fun _ => k)) :=
  wait_dma m ρ K c Q 0 o (sem3_eq o) (credit_part c o) (n := 0) (Nat.le_refl 0) (above_zero 0) k

end Cert.KernelIdeal.Ring

end
-- ==== Proof.Body.lean ====
/-
# The body

The straight parts of the kernel's body, and the whole body: from its share of the launch's resources a
device reaches the end with the result in its staging buffer and every semaphore of its own closed.
-/
module

public import proofs.«01_k».proof.Proof.Steps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## Loads and stores of whole buffers -/

theorem hz2 : (![0, 0] : Fin 2 → Nat) = fun _ => 0 := funext fun a => by fin_cases a <;> rfl
theorem hz3 : (![0, 0, 0] : Fin 3 → Nat) = fun _ => 0 := funext fun a => by fin_cases a <;> rfl

theorem read_x (f : (cc0_stg0_0 : Ref sig .tc).ty.Contents (Elt F)) : xM.view.readAt (Elt F) rX.toLoadRect f = f :=
  Memref.readAt_unit_zero (Elt F) cc0_stg0_0 hz2 _ f
theorem read_w (f : (cc0_stg1_0 : Ref sig .tc).ty.Contents (Elt F)) : wM.view.readAt (Elt F) rW.toLoadRect f = f :=
  Memref.readAt_unit_zero (Elt F) cc0_stg1_0 hz2 _ f
theorem read_o (f : (cc0_stg2_0 : Ref sig .tc).ty.Contents (Elt F)) : oM.view.readAt (Elt F) rO.toLoadRect f = f :=
  Memref.readAt_unit_zero (Elt F) cc0_stg2_0 hz2 _ f
theorem read_g (f : (cc0_scratch1 : Ref sig .tc).ty.Contents (Elt F)) : gM.view.readAt (Elt F) rO.toLoadRect f = f :=
  Memref.readAt_unit_zero (Elt F) cc0_scratch1 hz2 _ f
theorem read_s (f : (cc0_scratch2 : Ref sig .tc).ty.Contents (Elt F)) : sM.view.readAt (Elt F) rS.toLoadRect f = f :=
  Memref.readAt_unit_zero (Elt F) cc0_scratch2 hz3 _ f
theorem write_o (f w : (cc0_stg2_0 : Ref sig .tc).ty.Contents (Elt F)) : (oM.access rO).write (Elt F) f w Finset.univ = w :=
  Memref.write_access_unit_zero_univ (Elt F) cc0_stg2_0 hz2 _ f w
theorem write_p (f w : (cc0_scratch0 : Ref sig .tc).ty.Contents (Elt F)) : (pM.access rO).write (Elt F) f w Finset.univ = w :=
  Memref.write_access_unit_zero_univ (Elt F) cc0_scratch0 hz2 _ f w

/-- The rows a device keeps of its product, read out of the accumulator. -/
theorem read_own : oM.view.readAt (Elt F) (rD c).toLoadRect (acc m ρ c) = own m ρ c := by
  funext x
  show acc m ρ c ((oM.access (rD c)).emb x) = acc m ρ c (rowIx c x)
  rw [oAcc_emb]

/-- The buffer `b` of device `c` whole, at contents `f`. -/
abbrev at' (c : Dev nD) (b : Ref sig .tc) (f : Buf (Elt F) ((c : Thread nD τ).loc b)) : sProp 𝕄 :=
  (((c : Thread nD τ).loc b) ↦{fullShare} f)
abbrev some' (c : Dev nD) (b : Ref sig .tc) : sProp 𝕄 := iprop(∃ f, at' (F := F) c b f)

/-! ## The straight parts -/

theorem wp_mul (Q : PUnit → sProp 𝕄) (k : Prog (Eff F) PUnit) :
    iprop(at' c cc0_stg0_0 (xstg m ρ c) ∗ at' c cc0_stg1_0 (wstg m ρ c) ∗ some' (F := F) c cc0_stg2_0 ∗ some' (F := F) c cc0_scratch0)
      ⊢ iprop(((at' c cc0_stg0_0 (xstg m ρ c) ∗ at' c cc0_stg1_0 (wstg m ρ c) ∗ at' c cc0_stg2_0 (acc m ρ c)
          ∗ at' c cc0_scratch0 (part m ρ c)) -∗ Wp c Q k) -∗ Wp c Q (mulProg k)) := by
  unfold mulProg
  iintro ⟨Hx, Hw, ⟨%fo, Ho⟩, ⟨%fp, Hp⟩⟩ Hk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply (wp_load 𝒱₀ (c : Thread nD τ) none Set.univ (m := oM) (Finset.subset_univ _)) $$ Ho; iintro Ho
  rw [read_o]
  iapply (wp_load 𝒱₀ (c : Thread nD τ) none Set.univ (m := pM) (Finset.subset_univ _)) $$ Hp; iintro Hp
  iapply (wp_store 𝒱₀ (c : Thread nD τ) none Set.univ (m := pM) (r := rO) (Mk := Finset.univ) (Finset.subset_univ _)) $$ Hp; iintro Hp
  rw [write_p]
  iapply Hk
  isplitl [Hx]; · iexact Hx
  isplitl [Hw]; · iexact Hw
  isplitl [Ho]; · iexact Ho
  iexact Hp

/-- The device's own rows of the result, stored. -/
theorem stored_eq (f : Buf (Elt F) ((c : Thread nD τ).loc cc0_scratch1)) :
    (((c : Thread nD τ).loc cc0_scratch1) ↦[rowSet c]{fullShare} ((gM.access (rD c)).write (Elt F) f (k0_pay4 (own m ρ c) (slots (part m ρ) c)) Finset.univ) : sProp 𝕄)
      ⊢ (((c : Thread nD τ).loc cc0_scratch1) ↦[rowSet c]{fullShare} gAll m ρ : sProp 𝕄) :=
  Entails.of_eq (pointsTo_congr fun i hi => stored_rows (outRows m ρ) c f i hi)

theorem wp_mid (Q : PUnit → sProp 𝕄) (k : Prog (Eff F) PUnit) :
    iprop(at' c cc0_stg2_0 (acc m ρ c) ∗ at' c cc0_scratch2 (slots (part m ρ) c) ∗ anyRows (F := F) c c)
      ⊢ iprop(((at' c cc0_stg2_0 (acc m ρ c) ∗ at' c cc0_scratch2 (slots (part m ρ) c)
          ∗ (((c : Thread nD τ).loc cc0_scratch1) ↦[rowSet c]{fullShare} gAll m ρ)) -∗ Wp c Q k) -∗ Wp c Q (midProg c k)) := by
  unfold midProg anyRows
  iintro ⟨Ho, Hs, ⟨%f, Hg⟩⟩ Hk
  iapply (wp_load 𝒱₀ (c : Thread nD τ) none Set.univ (m := oM) (Finset.subset_univ _)) $$ Ho; iintro Ho
  rw [read_own]
  iapply (wp_load 𝒱₀ (c : Thread nD τ) none Set.univ (m := sM) (Finset.subset_univ _)) $$ Hs; iintro Hs
  rw [read_s]
  iapply (wp_load_rect 𝒱₀ (c : Thread nD τ) none Set.univ (m := gM) (r := rD c) (S := rowSet c) (subset_of_eq (gAcc_set c))) $$ Hg; iintro Hg
  iapply (wp_store 𝒱₀ (c : Thread nD τ) none Set.univ (m := gM) (r := rD c) (Mk := Finset.univ) (S := rowSet c) (subset_of_eq (gAcc_set c))) $$ Hg; iintro Hg
  ihave Hg' := (stored_eq m ρ c f) $$ Hg
  iapply Hk
  isplitl [Ho]; · iexact Ho
  isplitl [Hs]; · iexact Hs
  iexact Hg'

theorem wp_tail (Q : PUnit → sProp 𝕄) :
    iprop(at' c cc0_scratch1 (gAll m ρ) ∗ at' c cc0_stg2_0 (acc m ρ c))
      ⊢ iprop(((at' c cc0_scratch1 (gAll m ρ) ∗ at' c cc0_stg2_0 (outAt m ρ)) -∗ Q ⟨⟩) -∗ Wp c Q tailProg) := by
  unfold tailProg
  iintro ⟨Hg, Ho⟩ Hk
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o, wp_ret]; imodintro
  iapply Hk
  isplitl [Hg]; · iexact Hg
  iexact Ho

/-! ## Taking the buffers apart and putting them together -/

/-- A buffer is the disjoint sets of places that cover it: -/
theorem blocks_of {ι : Type} [Fintype ι] [DecidableEq ι] (b : Ref sig .tc) (f : Buf (Elt F) ((c : Thread nD τ).loc b))
    (I : ι → Finset (Idx ((c : Thread nD τ).loc b))) (hd : ∀ i j, i ≠ j → Disjoint (I i) (I j)) (hc : Finset.univ.biUnion I = Finset.univ) :
    at' (F := F) c b f = bigSep Finset.univ fun i => (((c : Thread nD τ).loc b) ↦[I i]{fullShare} f : sProp 𝕄) :=
  Idealize.ShloMosaic.Ring.pointsTo_blocks I hd hc f
/-- a buffer of 1024 rows is its 32 blocks of rows; -/
theorem blocks_p (f : Buf (Elt F) ((c : Thread nD τ).loc cc0_scratch0)) :
    at' (F := F) c cc0_scratch0 f = bigSep Finset.univ fun b => (((c : Thread nD τ).loc cc0_scratch0) ↦[rowSet b]{fullShare} f : sProp 𝕄) :=
  blocks_of c cc0_scratch0 f rowSet rowSet_disj rowSet_cover
theorem blocks_g (f : Buf (Elt F) ((c : Thread nD τ).loc cc0_scratch1)) :
    at' (F := F) c cc0_scratch1 f = bigSep Finset.univ fun b => (((c : Thread nD τ).loc cc0_scratch1) ↦[rowSet b]{fullShare} f : sProp 𝕄) :=
  blocks_of c cc0_scratch1 f rowSet rowSet_disj rowSet_cover
/-- the landing buffer is its 31 slots; -/
theorem blocks_s (f : Buf (Elt F) ((c : Thread nD τ).loc cc0_scratch2)) :
    at' (F := F) c cc0_scratch2 f = bigSep Finset.univ fun o => (((c : Thread nD τ).loc cc0_scratch2) ↦[slotSet o]{fullShare} f : sProp 𝕄) :=
  blocks_of c cc0_scratch2 f slotSet slotSet_disj slotSet_cover
/-- and any elements held are held at the 31 shares at once. -/
theorem shares_g (I : Finset (Idx ((c : Thread nD τ).loc cc0_scratch1))) (f : Buf (Elt F) ((c : Thread nD τ).loc cc0_scratch1)) :
    (((c : Thread nD τ).loc cc0_scratch1) ↦[I]{fullShare} f : sProp 𝕄)
      = bigSep Finset.univ fun o : Fin 31 => (((c : Thread nD τ).loc cc0_scratch1) ↦[I]{lend o} f : sProp 𝕄) :=
  pointsTo_piecesOf _ _ (by decide) fullShare

theorem rows_split (f : Buf (Elt F) ((c : Thread nD τ).loc cc0_scratch1)) :
    at' (F := F) c cc0_scratch1 f ⊢ iprop(anyRows (F := F) c c ∗ bigSep Finset.univ fun o : Fin 31 => anyRows (F := F) (up o c) c) := by
  rw [← split_dev c fun b => anyRows (F := F) b c, blocks_g]
  refine bigSep_mono fun b _ => ?_
  unfold anyRows
  exact exists_intro (Φ := fun f => (((c : Thread nD τ).loc cc0_scratch1) ↦[rowSet b]{fullShare} f : sProp 𝕄)) f

theorem slots_split (f : Buf (Elt F) ((c : Thread nD τ).loc cc0_scratch2)) :
    at' (F := F) c cc0_scratch2 f ⊢ bigSep Finset.univ fun o : Fin 31 => anySlot (F := F) (rev o) c := by
  rw [← turn fun o => anySlot (F := F) o c, blocks_s]
  refine bigSep_mono fun b _ => ?_
  unfold anySlot
  exact exists_intro (Φ := fun f => (((c : Thread nD τ).loc cc0_scratch2) ↦[slotSet b]{fullShare} f : sProp 𝕄)) f

/-- The partial product: the rows kept, and the 31 blocks sent. -/
theorem parts_eq : at' c cc0_scratch0 (part m ρ c)
    = iprop((((c : Thread nD τ).loc cc0_scratch0) ↦[rowSet c]{fullShare} part m ρ c) ∗ bigSep Finset.univ fun o : Fin 31 => pay m ρ 0 o c) := by
  rw [blocks_p, split_dev c]
  simp only [pay]
/-- The 31 slots. -/
theorem slots_eq : at' c cc0_scratch2 (slots (part m ρ) c) = bigSep Finset.univ fun o : Fin 31 => pay m ρ 1 o c := by
  rw [blocks_s]
  simp only [pay]
/-- The rows of the result computed here, cut in 31 shares. -/
theorem lent_eq : (((c : Thread nD τ).loc cc0_scratch1) ↦[rowSet c]{fullShare} gAll m ρ : sProp 𝕄)
    = bigSep Finset.univ fun o : Fin 31 => pay m ρ 2 o c := by
  simp only [pay]
  exact shares_g _ _ _
/-- The gathered result: the rows computed here, and the 31 blocks received. -/
theorem gathered_eq : at' c cc0_scratch1 (gAll m ρ)
    = iprop((((c : Thread nD τ).loc cc0_scratch1) ↦[rowSet c]{fullShare} gAll m ρ) ∗ bigSep Finset.univ fun o : Fin 31 => pay m ρ 3 o c) := by
  rw [blocks_g, split_dev_dn c]
  simp only [pay]

end Cert.KernelIdeal.Ring

end
-- ==== Proof.Whole.lean ====
/-
# The whole body

From its share of the launch's resources a device runs its body to the end: the result in its staging
buffer, the scratch buffers whole again, every semaphore of its own closed.
-/
module

public import proofs.«01_k».proof.Proof.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-- A family over the offsets. -/
abbrev fam (Φ : Fin 31 → sProp 𝕄) : sProp 𝕄 := bigSep Finset.univ Φ

theorem fam_sep (Φ Ψ : Fin 31 → sProp 𝕄) : fam (fun o => iprop(Φ o ∗ Ψ o)) = iprop(fam Φ ∗ fam Ψ) := bigSep_sep' _ Φ Ψ

/-- The loops of the first half: signals, the barrier, the product, the parts sent and received. -/
theorem wp_first (Q : PUnit → sProp 𝕄) (k : Prog (Eff F) PUnit) :
    iprop(ctx m ρ K ∗ owing (F := F) c (O₀ c) ∗ anyScratch (F := F) c
        ∗ at' c cc0_stg0_0 (xstg m ρ c) ∗ at' c cc0_stg1_0 (wstg m ρ c) ∗ some' (F := F) c cc0_stg2_0
        ∗ (cred (tallyAt (barCell c) () 31) ∗ atPos (ER (F := F)) (barCell c) 0 ∅ 0)
        ∗ (fam fun o => dutyTok (ER (F := F)) (barCell (up o c)) 0 (rev o))
        ∗ (fam fun o => dutyTok (ER (F := F)) (dcell 0 o c) 0 0) ∗ (fam fun o => dutyTok (ER (F := F)) (dcell 1 o (up o c)) 0 0)
        ∗ (fam fun o => cred (tallyAt (dcell 1 o c) () N)) ∗ (fam fun o => atPos (ER (F := F)) (dcell 1 o c) 0 ∅ 0))
      ⊢ iprop(((owing (F := F) c (Og c)
            ∗ at' c cc0_stg0_0 (xstg m ρ c) ∗ at' c cc0_stg1_0 (wstg m ρ c) ∗ at' c cc0_stg2_0 (acc m ρ c)
            ∗ semVal (barCell c) 0 ∗ (fam fun o => semVal (dcell 1 o c) 0) ∗ (fam fun o => cred (tallyAt (dcell 0 o c) () N))
            ∗ (((c : Thread nD τ).loc cc0_scratch0) ↦[rowSet c]{fullShare} part m ρ c)
            ∗ at' c cc0_scratch2 (slots (part m ρ) c)
            ∗ anyRows (F := F) c c ∗ (fam fun o => anyRows (F := F) c (up o c))) -∗ Wp c Q k)
        -∗ Wp c Q (each offs (sigOp c) <| .op (.semWait barS (31#32 : BitVec 32).toInt) fun _ =>
            mulProg <| each offs (rsSend c) <| each offs (rsRecv c) k)) := by
  unfold anyScratch
  iintro ⟨#HR, HO, ⟨Hp, ⟨%fg, Hg⟩, ⟨%fs, Hs⟩⟩, Hx, Hw, Ho, ⟨Hcb, Hab⟩, Htb, Ht0, Ht1, Hc1, Ha1⟩ Hk
  ihave Hg' := (rows_split c fg) $$ Hg
  icases Hg' with ⟨Hown, Hg⟩
  ihave Hs := (slots_split c fs) $$ Hs
  iapply (wp_offs c Q (fun o k => .op (sigOp c o) fun _ => k) (ctx m ρ K) (fun l => owing (F := F) c (tot (Op c) l (owBar c)))
    (fun o => iprop(dutyTok (ER (F := F)) (barCell (up o c)) 0 (rev o) ∗ anySlot (F := F) (rev o) c ∗ anyRows (F := F) (up o c) c))
    (fun _ => iprop(emp)) (fun o l k => step_signal m ρ K c Q o l k)) $$ [HO Htb Hs Hg]
  · isplitr; · iexact HR
    isplitl [HO]; · iexact HO
    rw [bigSep_sep', bigSep_sep']
    isplitl [Htb]; · iexact Htb
    isplitl [Hs]; · iexact Hs
    iexact Hg
  iintro ⟨HO, -⟩
  iapply (wait_bar m ρ K c Q) $$ [HO Hcb Hab]
  · isplitr; · iexact HR
    isplitl [HO]; · iexact HO
    isplitl [Hcb]; · iexact Hcb
    iexact Hab
  unfold barPay
  rw [bigSep_sep']
  iintro ⟨HO, Hzb, Hslots, Hrows⟩
  iapply (wp_mul m ρ c Q) $$ [Hx Hw Ho Hp]
  · isplitl [Hx]; · iexact Hx
    isplitl [Hw]; · iexact Hw
    isplitl [Ho]; · iexact Ho
    iexact Hp
  iintro ⟨Hx, Hw, Ho, Hp⟩
  ihave Hp' := (Entails.of_eq (parts_eq m ρ c)) $$ Hp
  icases Hp' with ⟨Hpo, Hp⟩
  iapply (wp_offs c Q (fun o k => .op (rsSend c o) fun _ => k) (ctx m ρ K) (fun l => owing (F := F) c (tot (Og c) l (owPart c)))
    (fun o => iprop(pay m ρ 0 o c ∗ anySlot (F := F) o (up o c)
      ∗ dutyTok (ER (F := F)) (dcell 0 o c) 0 0 ∗ dutyTok (ER (F := F)) (dcell 1 o (up o c)) 0 0))
    (fun o => cred (tallyAt (dcell 0 o c) () N)) (fun o l k => step_rsSend m ρ K c Q o l k)) $$ [HO Hp Hslots Ht0 Ht1]
  · isplitr; · iexact HR
    isplitl [HO]; · iexact HO
    rw [bigSep_sep', bigSep_sep', bigSep_sep']
    isplitl [Hp]; · iexact Hp
    isplitl [Hslots]; · iexact Hslots
    isplitl [Ht0]; · iexact Ht0
    iexact Ht1
  iintro ⟨HO, Hc0⟩
  iapply (wp_offs c Q (fun o k => .op (rsRecv c o) fun _ => k) (ctx m ρ K) (fun _ => owing (F := F) c (Og c))
    (fun o => iprop(cred (tallyAt (dcell 1 o c) () N) ∗ atPos (ER (F := F)) (dcell 1 o c) 0 ∅ 0))
    (fun o => iprop(semVal (dcell 1 o c) 0 ∗ pay m ρ 1 o c)) (fun o l k => step_rsRecv m ρ K c Q o l k)) $$ [HO Hc1 Ha1]
  · isplitr; · iexact HR
    isplitl [HO]; · iexact HO
    rw [bigSep_sep']
    isplitl [Hc1]; · iexact Hc1
    iexact Ha1
  rw [bigSep_sep', ← slots_eq]
  iintro ⟨HO, Hz1, Hs⟩
  iapply Hk
  isplitl [HO]; · iexact HO
  isplitl [Hx]; · iexact Hx
  isplitl [Hw]; · iexact Hw
  isplitl [Ho]; · iexact Ho
  isplitl [Hzb]; · iexact Hzb
  isplitl [Hz1]; · iexact Hz1
  isplitl [Hc0]; · iexact Hc0
  isplitl [Hpo]; · iexact Hpo
  isplitl [Hs]; · iexact Hs
  isplitl [Hown]; · iexact Hown
  iexact Hrows

/-- The loops of the second half: the own rows, sent and the others' received; the parts sent come back; the result. -/
theorem wp_second (Q : PUnit → sProp 𝕄) :
    iprop(ctx m ρ K ∗ owing (F := F) c (Og c) ∗ at' c cc0_stg2_0 (acc m ρ c)
        ∗ (((c : Thread nD τ).loc cc0_scratch0) ↦[rowSet c]{fullShare} part m ρ c)
        ∗ at' c cc0_scratch2 (slots (part m ρ) c) ∗ anyRows (F := F) c c ∗ (fam fun o => anyRows (F := F) c (up o c))
        ∗ (fam fun o => dutyTok (ER (F := F)) (dcell 2 o c) 0 0) ∗ (fam fun o => dutyTok (ER (F := F)) (dcell 3 o (up o c)) 0 0)
        ∗ (fam fun o => atPos (ER (F := F)) (dcell 2 o c) 0 ∅ 0)
        ∗ (fam fun o => cred (tallyAt (dcell 3 o c) () N)) ∗ (fam fun o => atPos (ER (F := F)) (dcell 3 o c) 0 ∅ 0)
        ∗ (fam fun o => cred (tallyAt (dcell 0 o c) () N)) ∗ (fam fun o => atPos (ER (F := F)) (dcell 0 o c) 0 ∅ 0))
      ⊢ iprop(((owing (F := F) c 0 ∗ at' c cc0_stg2_0 (outAt m ρ) ∗ anyScratch (F := F) c
            ∗ (fam fun o => semVal (dcell 0 o c) 0) ∗ (fam fun o => semVal (dcell 2 o c) 0)
            ∗ (fam fun o => semVal (dcell 3 o c) 0)) -∗ Q ⟨⟩)
        -∗ Wp c Q (midProg c <| each offs (agSend c) <| each₂ offs (agSent c) (agRecv c) <| each offs (rsSent c) tailProg)) := by
  iintro ⟨#HR, HO, Ho, Hpo, Hs, Hown, Hrows, Ht2, Ht3, Ha2, Hc3, Ha3, Hc0, Ha0⟩ Hk
  iapply (wp_mid m ρ c Q) $$ [Ho Hs Hown]
  · isplitl [Ho]; · iexact Ho
    isplitl [Hs]; · iexact Hs
    iexact Hown
  rw [lent_eq]
  iintro ⟨Ho, Hs, Hlent⟩
  iapply (wp_offs c Q (fun o k => .op (agSend c o) fun _ => k) (ctx m ρ K) (fun l => owing (F := F) c (tot 0 l (owRows c)))
    (fun o => iprop(pay m ρ 2 o c ∗ anyRows (F := F) c (up o c)
      ∗ dutyTok (ER (F := F)) (dcell 2 o c) 0 0 ∗ dutyTok (ER (F := F)) (dcell 3 o (up o c)) 0 0))
    (fun o => cred (tallyAt (dcell 2 o c) () N)) (fun o l k => step_agSend m ρ K c Q o l k)) $$ [HO Hlent Hrows Ht2 Ht3]
  · isplitr; · iexact HR
    isplitl [HO]; · iexact HO
    rw [bigSep_sep', bigSep_sep', bigSep_sep']
    isplitl [Hlent]; · iexact Hlent
    isplitl [Hrows]; · iexact Hrows
    isplitl [Ht2]; · iexact Ht2
    iexact Ht3
  iintro ⟨HO, Hc2⟩
  iapply (wp_offs c Q (fun o k => .op (agSent c o) fun _ => .op (agRecv c o) fun _ => k) (ctx m ρ K) (fun _ => owing (F := F) c 0)
    (fun o => iprop(cred (tallyAt (dcell 2 o c) () N) ∗ atPos (ER (F := F)) (dcell 2 o c) 0 ∅ 0
      ∗ cred (tallyAt (dcell 3 o c) () N) ∗ atPos (ER (F := F)) (dcell 3 o c) 0 ∅ 0))
    (fun o => iprop(semVal (dcell 2 o c) 0 ∗ pay m ρ 2 o c ∗ semVal (dcell 3 o c) 0 ∗ pay m ρ 3 o c))
    (fun o l k => step_ag m ρ K c Q o l k)) $$ [HO Hc2 Ha2 Hc3 Ha3]
  · isplitr; · iexact HR
    isplitl [HO]; · iexact HO
    rw [bigSep_sep', bigSep_sep', bigSep_sep']
    isplitl [Hc2]; · iexact Hc2
    isplitl [Ha2]; · iexact Ha2
    isplitl [Hc3]; · iexact Hc3
    iexact Ha3
  rw [bigSep_sep', bigSep_sep', bigSep_sep', ← lent_eq]
  iintro ⟨HO, Hz2, Hg, Hz3, Hgs⟩
  iapply (wp_offs c Q (fun o k => .op (rsSent c o) fun _ => k) (ctx m ρ K) (fun _ => owing (F := F) c 0)
    (fun o => iprop(cred (tallyAt (dcell 0 o c) () N) ∗ atPos (ER (F := F)) (dcell 0 o c) 0 ∅ 0))
    (fun o => iprop(semVal (dcell 0 o c) 0 ∗ pay m ρ 0 o c)) (fun o l k => step_rsSent m ρ K c Q o l k)) $$ [HO Hc0 Ha0]
  · isplitr; · iexact HR
    isplitl [HO]; · iexact HO
    rw [bigSep_sep']
    isplitl [Hc0]; · iexact Hc0
    iexact Ha0
  rw [bigSep_sep']
  iintro ⟨HO, Hz0, Hps⟩
  ihave Hg := (Entails.of_eq (gathered_eq m ρ c).symm) $$ [Hg Hgs]
  · isplitl [Hg]; · iexact Hg
    iexact Hgs
  ihave Hp := (Entails.of_eq (parts_eq m ρ c).symm) $$ [Hpo Hps]
  · isplitl [Hpo]; · iexact Hpo
    iexact Hps
  iapply (wp_tail m ρ c Q) $$ [Hg Ho]
  · isplitl [Hg]; · iexact Hg
    iexact Ho
  iintro ⟨Hg, Ho⟩
  iapply Hk
  isplitl [HO]; · iexact HO
  isplitl [Ho]; · iexact Ho
  isplitl [Hp Hg Hs]
  · unfold anyScratch
    isplitl [Hp]; · iexists part m ρ c; iexact Hp
    isplitl [Hg]; · iexists gAll m ρ; iexact Hg
    iexists slots (part m ρ) c; iexact Hs
  isplitl [Hz0]; · iexact Hz0
  isplitl [Hz2]; · iexact Hz2
  iexact Hz3

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ
    ∗ stg c cc0_stg0_0 (xstg m ρ c) ∗ stg c cc0_stg1_0 (wstg m ρ c) ∗ stg c cc0_stg2_0 (outAt m ρ))

set_option maxRecDepth 20000 in
/-- The body from `bodyPre` to `bodyPost`. -/
theorem sound_body (c : Dev nD) :
    bodyPre m ρ c ⊢ Wp c (fun _ => bodyPost m ρ c)
      (cc0_body (F := F) xM (Memref.isWhole_whole _) wM (Memref.isWhole_whole _) oM (Memref.isWhole_whole _)
        pM (Memref.isWhole_whole _) gM (Memref.isWhole_whole _) sM (Memref.isWhole_whole _)
        cc0_scratch3 cc0_scratch4 cc0_scratch5 cc0_scratch6) := by
  rw [body_eq]
  simp only [wp_deviceId]
  show bodyPre m ρ c ⊢ Wp c (fun _ => bodyPost m ρ c) (bodyProg c)
  unfold bodyPre Φ₀ start ghost creds positions payToks
  rw [split_sems]
  iintro ⟨⟨⟨⟨%K, #Hrec, ⟨Hab, Ha0, Ha1, Ha2, Ha3⟩, Htb, Ht0, Ht1, Ht2, Ht3⟩, ⟨Hcb, Hc1, Hc3⟩, #Hlev⟩, Hscr⟩, HO,
    ⟨%d0, %g0, %hg0, Hx⟩, ⟨%d1, %g1, %hg1, Hw⟩, ⟨%d2, %g2, %hg2, Ho⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx; subst hw
  unfold Dat.owesAt Pipeline.owesWithin
  icases HO with ⟨%W, %hW, HO⟩
  rw [show (dats m ρ 0 c).owed t0_0.castSucc = O₀ c from rfl]
  ihave #HR : ctx m ρ K $$ []
  · unfold ctx; isplitr; · iexact Hrec
    iexact Hlev
  unfold bodyProg
  iapply (wp_first m ρ K c) $$ [HO Hscr Hx Hw Ho Hcb Hab Htb Ht0 Ht1 Hc1 Ha1]
  · isplitr; · iexact HR
    isplitl [HO]; · unfold owing; iexists W; iexact HO
    isplitl [Hscr]; · iexact Hscr
    isplitl [Hx]; · iexact Hx
    isplitl [Hw]; · iexact Hw
    isplitl [Ho]; · iexists g2; iexact Ho
    isplitl [Hcb Hab]
    · isplitl [Hcb]; · iexact Hcb
      iexact Hab
    isplitl [Htb]; · iexact Htb
    isplitl [Ht0]; · iexact Ht0
    isplitl [Ht1]; · iexact Ht1
    isplitl [Hc1]; · iexact Hc1
    iexact Ha1
  iintro ⟨HO, Hx, Hw, Ho, Hzb, Hz1, Hc0, Hpo, Hs, Hown, Hrows⟩
  iapply (wp_second m ρ K c) $$ [HO Ho Hpo Hs Hown Hrows Ht2 Ht3 Ha2 Hc3 Ha3 Hc0 Ha0]
  · isplitr; · iexact HR
    isplitl [HO]; · iexact HO
    isplitl [Ho]; · iexact Ho
    isplitl [Hpo]; · iexact Hpo
    isplitl [Hs]; · iexact Hs
    isplitl [Hown]; · iexact Hown
    isplitl [Hrows]; · iexact Hrows
    isplitl [Ht2]; · iexact Ht2
    isplitl [Ht3]; · iexact Ht3
    isplitl [Ha2]; · iexact Ha2
    isplitl [Hc3]; · iexact Hc3
    isplitl [Ha3]; · iexact Ha3
    isplitl [Hc0]; · iexact Hc0
    iexact Ha0
  iintro ⟨HO, Ho, Hscr, Hz0, Hz2, Hz3⟩
  unfold bodyPost Φ₁ Dat.owesAt Pipeline.owesWithin owing
  rw [split_sems, show (dats m ρ 0 c).owed t0_0.succ = 0 from rfl]
  icases HO with ⟨%W', HO⟩
  isplitl [Hscr Hzb Hz0 Hz1 Hz2 Hz3]
  · isplitl [Hscr]; · iexact Hscr
    isplitl [Hzb]; · iexact Hzb
    isplitl [Hz0]; · iexact Hz0
    isplitl [Hz1]; · iexact Hz1
    isplitl [Hz2]; · iexact Hz2
    iexact Hz3
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 20000 in
/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

end Cert.KernelIdeal.Ring

end
-- ==== Proof.Launch.lean ====
/-
# The launch

Before the run the ring's cells are set up on every device, and the tokens of their duties are dealt to the
devices that pay them. From there the library's launch theorem gives the run of @main.
-/
module

public import proofs.«01_k».proof.Proof.Whole
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the DMA semaphores of the four kinds. -/
abbrev osem (ao : Fin 4 × Fin 31) : SemLoc sig := .dma (dsem ao.1 ao.2)

theorem ownSemFacts : Pipeline.OwnSemFacts cfg0.spec osem := by decide +kernel

theorem share_eq (c : Dev nD) (w : Fin cfg0.W) : (dats m ρ 0 c).share w = fullShare := by unfold Dat.share; split <;> rfl

theorem kcell_inj : Function.Injective (kcell : Dev nD × CI → GSem nD τ sig) := by
  rintro ⟨c, i⟩ ⟨c', i'⟩ h
  have hc : c = c' := congrArg (fun g : GSem nD τ sig => g.1.1) h
  have hi : i = i' := csem_inj (congrArg Prod.snd h)
  rw [hc, hi]

/-- Every cell of the ring. -/
def ringCells : Finset (GSem nD τ sig) := Finset.univ.map ⟨kcell, kcell_inj⟩

/-- The duties of one device's cells: its barrier's at each offset, and the one of each DMA semaphore. -/
abbrev DI : Type := Fin 31 ⊕ (Fin 4 × Fin 31)
abbrev tokOf (cd : Dev nD × DI) : GSem nD τ sig × ℕ × Fin 31 :=
  match cd.2 with
  | .inl o => (barCell cd.1, 0, o)
  | .inr ao => (dcell ao.1 ao.2 cd.1, 0, 0)

theorem tokOf_inj : Function.Injective tokOf := by
  rintro ⟨c, d⟩ ⟨c', d'⟩ h
  have hc : c = c' := by
    have := congrArg (fun x : GSem nD τ sig × ℕ × Fin 31 => x.1.1.1) h
    rcases d with _ | _ <;> rcases d' with _ | _ <;> exact this
  have hs := congrArg (fun x : GSem nD τ sig × ℕ × Fin 31 => idxOf x.1.2) h
  have hk := congrArg (fun x : GSem nD τ sig × ℕ × Fin 31 => x.2.2) h
  rcases d with o | ⟨a, o⟩ <;> rcases d' with o' | ⟨a', o'⟩ <;> dsimp only [tokOf] at hs hk
  · rw [hc, hk]
  · rw [idxOf_bar, idxOf_dma] at hs; cases hs
  · rw [idxOf_bar, idxOf_dma] at hs; cases hs
  · rw [idxOf_dma, idxOf_dma] at hs; cases hs; rw [hc]

/-- Every duty of the ring. -/
def ringToks : Finset (GSem nD τ sig × ℕ × Fin 31) := Finset.univ.map ⟨tokOf, tokOf_inj⟩

/-- The ghost state at launch. -/
def u₀ : UU :=
  (initOf (Pipeline.cells cfgs cellOf_inj) (Pipeline.launchToks cfgs cellOf_inj), initOf ringCells ringToks)

/-- The tokens of one device's cells, by kind. -/
def toks (c : Dev nD) : sProp 𝕄 :=
  iprop((fam fun o => dutyTok (ER (F := F)) (barCell c) 0 o)
    ∗ (fam fun o => dutyTok (ER (F := F)) (dcell 0 o c) 0 0) ∗ (fam fun o => dutyTok (ER (F := F)) (dcell 1 o c) 0 0)
    ∗ (fam fun o => dutyTok (ER (F := F)) (dcell 2 o c) 0 0) ∗ (fam fun o => dutyTok (ER (F := F)) (dcell 3 o c) 0 0))

/-- What the launch deals device `c`: its cells' states and positions, and its cells' tokens. -/
def G (c : Dev nD) : sProp 𝕄 :=
  iprop((bigSep Finset.univ fun i : CI => roundState ER (ringRd m ρ) (kcell (c, i)) 0)
    ∗ (bigSep Finset.univ fun i : CI => iprop(atPos (ER (F := F)) (kcell (c, i)) 0 ∅ 0 ∗ reached ER (kcell (c, i)) 0)) ∗ toks c)

/-- What the global step makes of it. -/
def G' (c : Dev nD) : sProp 𝕄 := iprop(∃ K, ghost m ρ K c)

theorem fund_ring : BI.own (ER (F := F) (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_prod, bigSep_univ_eq_bigSepL [(0 : Fin 4), 1, 2, 3] (by decide) (by decide)]
    rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores, all at zero: the barrier's and the kernel's own. -/
theorem sems0_eq (c : Dev nD) :
    (bigSep Finset.univ fun i : CI => semVal (kcell (c, i)) 0 : sProp 𝕄)
      = iprop(unscopedSems0 c ∗ Pipeline.ownSems0 (Ix := Unit) (Name := ℕ) (U := UU) (Lvl := ℕ) (Val := Elt F) (τ := τ) osem c) := by
  rw [unscopedSems0_eq, split_option]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (ringRd m ρ) κ (kcell (c, i))))
          ∗ (bigSep Finset.univ fun i : CI => iprop(atPos (ER (F := F)) (kcell (c, i)) 0 ∅ 0 ∗ reached ER (kcell (c, i)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : CI => semVal (kcell (c, i)) 0) ∗ bigSep Finset.univ fun i : CI => roundState ER (ringRd m ρ) (kcell (c, i)) 0)
      ⊢ (|={Set.univ}=> bigSep Finset.univ fun i => iprop(∃ κ : ℕ, cellInv ER (ringRd m ρ) κ (kcell (c, i))) : sProp 𝕄) from by
        rw [← bigSep_sep']
        exact (bigSep_mono fun i _ => (Rounds.body_intro ER (ringRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay -/

/-- A family over devices and offsets may be taken at each offset from the device that many places ahead. -/
theorem deal (T : Fin 31 → Dev nD → sProp 𝕄) :
    (bigSep Finset.univ fun c : Dev nD => fam fun o => T o c) = bigSep Finset.univ fun c : Dev nD => fam fun o => T o (up o c) := by
  rw [bigSep_univ_comm, bigSep_univ_comm (fun c o => T o (up o c))]
  exact bigSep_congr fun o _ => bigSep_univ_equiv (ring o) (T o)

theorem toks_dealt : (bigSep Finset.univ fun c : Dev nD => (toks c : sProp 𝕄)) = bigSep Finset.univ fun c : Dev nD => payToks c := by
  unfold toks payToks
  simp only [bigSep_sep']
  rw [bigSep_congr (s := Finset.univ) (fun (c : Dev nD) _ => turn fun o => dutyTok (ER (F := F)) (barCell c) 0 o),
    deal fun o c => dutyTok (ER (F := F)) (barCell c) 0 (rev o), deal fun o c => dutyTok (ER (F := F)) (dcell 1 o c) 0 0,
    deal fun o c => dutyTok (ER (F := F)) (dcell 3 o c) 0 0]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (ringRd m ρ) κ (kcell (c, i))))
          ∗ (bigSep Finset.univ fun i : CI => iprop(atPos (ER (F := F)) (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄)), toks_dealt]
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  iapply (with_persistent (R := records m ρ K) (Φ := fun c => iprop(positions (F := F) c ∗ payToks c)) fun c _ => show _ ⊢ G' m ρ c from by
    unfold G' ghost
    iintro H; iexists K; iexact H)
  isplitr
  · unfold records
    rw [bigSep_sep']
    isplitl; · iexact HI
    iexact HR
  · rw [bigSep_sep']
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tot_apply {ι : Type} (O : CellTallies nD τ sig Unit) (f : ι → CellTallies nD τ sig Unit) (g : GSem nD τ sig) :
    ∀ l : List ι, tot O l f g () = O g () + (l.map fun i => f i g ()).sum
  | [] => (Nat.add_zero _).symm
  | i :: l => by
    show tot O l f g () + f i g () = _
    rw [tot_apply O f g l, List.map_cons, List.sum_cons]; omega

/-- What is owed to a cell, over the offsets. -/
theorem tot_offs (O : CellTallies nD τ sig Unit) (f : Fin 31 → CellTallies nD τ sig Unit) (g : GSem nD τ sig) :
    tot O offs f g () = O g () + ∑ o, f o g () := by
  rw [tot_apply]; exact congrArg _ (Fin.sum_univ_def _).symm

/-- What all devices together owe to cell `i` of device `c` by one credit of `n` at each offset. -/
theorem owed_family (c : Dev nD) (i : CI) (j : Fin 31 → CI) (n : ℕ) :
    ∑ d : Dev nD, ∑ o : Fin 31, (tallyAt (kcell (up o d, j o)) () n : CellTallies nD τ sig Unit) (kcell (c, i)) ()
      = ∑ o : Fin 31, if i = j o then n else 0 := by
  rw [Finset.sum_comm]
  refine Finset.sum_congr rfl fun o _ => ?_
  rw [Finset.sum_congr rfl fun d _ => show _ = if dn o c = d then (if i = j o then n else 0) else 0 from ?_,
    Finset.sum_ite_eq, if_pos (Finset.mem_univ _)]
  rw [tallyAt_apply]
  by_cases hd : dn o c = d
  · subst hd
    rw [if_pos rfl, up_dn]
    by_cases hi : i = j o
    · subst hi; rw [if_pos ⟨rfl, rfl⟩, if_pos rfl]
    · rw [if_neg fun h => hi (congrArg Prod.snd (kcell_inj h.1)), if_neg hi]
  · rw [if_neg hd, if_neg fun h => hd (by rw [show c = up o d from congrArg Prod.fst (kcell_inj h.1), dn_up])]

theorem owed_all (c : Dev nD) (i : CI) :
    ∑ d, O₀ d (kcell (c, i)) () = (∑ o : Fin 31, if i = some (3, o) then N else 0)
      + (∑ o : Fin 31, if i = some (1, o) then N else 0) + ∑ o : Fin 31, if i = none then 1 else 0 := by
  unfold O₀ Op Og
  simp only [tot_offs, Finset.sum_add_distrib]
  rw [← owed_family c i (fun o => some (3, o)) N, ← owed_family c i (fun o => some (1, o)) N, ← owed_family c i (fun _ => none) 1]
  simp only [Pi.zero_apply, Finsupp.zero_apply, Finset.sum_const_zero, Nat.zero_add]

theorem launch_at (c : Dev nD) (i : CI) (k : ℕ) (h : ∑ d, O₀ d (kcell (c, i)) () = k) :
    tallyOn (kcell (c, i)) (launchCredit (Pipeline.owing O₀) 0 (kcell (c, i))) = (tallyAt (kcell (c, i)) () k : CellTallies nD τ sig Unit) := by
  unfold tallyAt; refine congrArg _ (Finsupp.ext fun u => ?_); cases u
  rw [Pipeline.launchCredit_owing, Finsupp.single_eq_same, h]

theorem launch_bar (c : Dev nD) : ∑ d, O₀ d (kcell (c, none)) () = 31 := by
  rw [owed_all]; simp
theorem launch_part (c : Dev nD) (o : Fin 31) : ∑ d, O₀ d (kcell (c, some (1, o))) () = N := by
  rw [owed_all]; simp
theorem launch_rows (c : Dev nD) (o : Fin 31) : ∑ d, O₀ d (kcell (c, some (3, o))) () = N := by
  rw [owed_all]; simp

/-- The launch credit of the ring's cells of one device. -/
theorem launch_cells (c : Dev nD) : (Pipeline.launchCred O₀ c : sProp 𝕄)
    ⊢ bigSep Finset.univ fun i : CI => cred (tallyOn (kcell (c, i)) (launchCredit (Pipeline.owing O₀) 0 (kcell (c, i)))) := by
  unfold Pipeline.launchCred
  refine (bigSep_subset (Finset.subset_univ (Finset.univ.map ⟨csem, csem_inj⟩))).trans ?_
  rw [bigSep_map]; rfl

theorem launch_creds (c : Dev nD) : (Pipeline.launchCred O₀ c : sProp 𝕄) ⊢ creds c := by
  refine (launch_cells c).trans ?_
  rw [split_sems, launch_at c none 31 (launch_bar c)]
  simp only [fun o => launch_at c (some (1, o)) N (launch_part c o), fun o => launch_at c (some (3, o)) N (launch_rows c o)]
  unfold creds
  iintro ⟨Hb, -, H1, -, H3⟩
  isplitl [Hb]; · iexact Hb
  isplitl [H1]; · iexact H1
  iexact H3

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyScratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ anyScratch
  rw [sems0_eq]
  iintro ⟨Hr, HB, HS⟩
  isplitl [HB]; · iexact HB
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ (n := 0)
      (by
        have h : idxOf (.dma (((cfgs 0).win w).sem s)) = none := by fin_cases w <;> fin_cases s <;> exact idxOf_stage _ (by decide)
        rw [h]; exact Nat.le_refl 0)
      (by
        rcases t with ⟨_ | _, ht⟩
        · exact above_O₀ c
        · exact above_zero 0)

/-! ## The run -/

/-- The contents of window `w`'s array on device `c` at the end. -/
def finalA (c : Dev nD) (w : Fin cfg0.W) : Buf (Elt F) ((cfg0.win w).arr.view.loc (c : Thread nD τ)) := (dats m ρ 0 c).arrAt w cfg0.N

/-- Every window's array on every device at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory, at zero counters, for any float values: every weakly fair execution of @main on the 32 devices
    terminates, with every window's array at its final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Arrays.lean ====
/-
# What the arrays hold when the run ends

The result array is written back once, whole, and the two argument arrays are only read. So on every
device the result array ends holding the gathered rows, and the arguments end as they began.
-/
module

public import proofs.«01_k».proof.Proof.Launch
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.Sem
open Idealize.ShloMosaic.Pipeline (Window)

variable {F : FTy → Type} [FloatOps F]

variable (m : (ℓ : Loc nD τ sig) → Buf (Elt F) ℓ) (ρ : Dev nD → PrngReg)

theorem index0_0 : ∀ (t : Fin cfg0.N) (a : Fin 2), win0_0.index t a = 0 := by decide +kernel
theorem index0_1 : ∀ (t : Fin cfg0.N) (a : Fin 2), win0_1.index t a = 0 := by decide +kernel
theorem index0_2 : ∀ (t : Fin cfg0.N) (a : Fin 2), win0_2.index t a = 0 := by decide +kernel

/-- The one block of `x` is all of it; -/
theorem emb0_0 (t : Fin cfg0.N) (i : S1024x32.Idx) : (win0_0.blk t).view.emb i = i :=
  funext fun a => Fin.ext (win0_0.rect_emb_val_of_index_zero t a (index0_0 t a) i)
/-- so is the one block of the weights, -/
theorem emb0_1 (t : Fin cfg0.N) (i : S32x1024.Idx) : (win0_1.blk t).view.emb i = i :=
  funext fun a => Fin.ext (win0_1.rect_emb_val_of_index_zero t a (index0_1 t a) i)
/-- and the one block of the result. -/
theorem emb0_2 (t : Fin cfg0.N) (i : S1024x1024.Idx) : (win0_2.blk t).view.emb i = i :=
  funext fun a => Fin.ext (win0_2.rect_emb_val_of_index_zero t a (index0_2 t a) i)

/-- What is staged of `x` is the array. -/
theorem xstg_eq (c : Dev nD) : xstg m ρ c = m ((c : Thread nD τ).loc main_arg0) := by
  funext i
  exact congrArg (m ((c : Thread nD τ).loc main_arg0)) (emb0_0 (0 : Fin 1) i)
/-- What is staged of the weights is the array. -/
theorem wstg_eq (c : Dev nD) : wstg m ρ c = m ((c : Thread nD τ).loc main_arg1) := by
  funext i
  exact congrArg (m ((c : Thread nD τ).loc main_arg1)) (emb0_1 (0 : Fin 1) i)

theorem flushed0_2 (c : Dev nD) (t : Fin cfg0.N) :
    (dats m ρ 0 c).flushed 2 t = ((cfg0.win 2).blk t).view.read (Elt F) (outAt m ρ) := by
  obtain rfl := fin_N0 t
  have ha : (dats m ρ 0 c).after 2 t0_0 = outAt m ρ := by dsimp only [dats]
  unfold Pipeline.Dat.flushed
  rw [ha]
  funext i
  exact congrArg (outAt m ρ) (emb0_2 t0_0 i).symm

/-- `x` ends as it began; -/
theorem finalA_x (c : Dev nD) : finalA m ρ c 0 = m ((c : Thread nD τ).loc main_arg0) :=
  (dats m ρ 0 c).arrAt_in 0 rfl _
/-- so do the weights. -/
theorem finalA_w (c : Dev nD) : finalA m ρ c 1 = m ((c : Thread nD τ).loc main_arg1) :=
  (dats m ρ 0 c).arrAt_in 1 rfl _
/-- The result array ends holding all rows of the result, the same on every device. -/
theorem finalA_out (c : Dev nD) : finalA m ρ c 2 = outAt m ρ :=
  (dats m ρ 0 c).arrAt_eq_of_cover 2 (outAt m ρ) (fun t _ => flushed0_2 m ρ c t) fun i =>
    ⟨t0_0, flush0_2 _, by
      have h : (win0_2.blk t0_0).view.emb i ∈ (win0_2.blk t0_0).view.set := Finset.mem_map_of_mem _ (Finset.mem_univ _)
      rw [emb0_2] at h
      exact h⟩

/-- From any memory, with every counter zero, every run ends; then each device's result array holds all rows
    of the result, its arguments are unchanged, and every counter is zero. -/
theorem run_arrays : θ_run defs (onTc (τ := τ) (main (F := F))) ⟨m, fun _ => 0, ρ⟩ (fun r =>
    (∀ c : Dev nD, r.2.mem ((c.tc : Thread nD τ).loc main_v1) = outAt m ρ
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (finalA_out m ρ c),
    (h.1 c (0 : Fin 3)).trans (finalA_x m ρ c), (h.1 c (1 : Fin 3)).trans (finalA_w m ρ c)⟩, h.2⟩) (run_main m ρ)

end Cert.KernelIdeal.Ring

end
-- ==== Proof.BlockValue.lean ====
/-
# What one device computes, over the extended reals

A device's product is a sum over its own 32 columns of `x` and rows of the weights. Its rows of the result
are the activation of the sum of those rows over all 32 devices.
-/
module

public import proofs.«01_k».proof.Proof.Protocol
public import Idealize.ShloMosaic.Lib.MatmulPlain
public import Idealize.ShloMosaic.Lib.Pointwise.Reduce
public import Idealize.ShloMosaic.Lib.Pipeline.Value

@[expose] public section

noncomputable section

namespace Cert.KernelIdeal.Ring

open Cert.KernelIdeal Cert.KernelIdeal.Gen

open Idealize.ShloMosaic
open Idealize.ShloMosaic.TcCoe

/-- The product of a device's columns of `x` and rows of the weights, at a row and a column. -/
theorem pay2_apply (x : FVec Ideal S1024x32 .f32) (w : FVec Ideal S32x1024 .f32) (r n : Fin 1024) :
    k0_pay2 (F := Ideal) x w (ValueIdx.ix2 r n) = ∑ k : Fin 32, x (ValueIdx.ix2 r k) * w (ValueIdx.ix2 k n) := by
  unfold k0_pay2
  rw [shapeCast_self, shapeCast_self]
  refine (Ideal.matmul_plain_apply (M := 1024) (K := 32) (N := 1024) none x w _ r n).trans ?_
  show Ideal.ofBits .f32 0x00000000#32 + _ = _
  rw [Ideal.ofBits_zero_f32, zero_add]

/-- Rounding for the send does nothing over the extended reals. -/
theorem pay3_eq (v : FVec Ideal S1024x1024 .f32) : k0_pay3 (F := Ideal) v = v := by
  unfold k0_pay3
  dsimp only
  rw [shapeCast_self]
  exact shapeCast_self _ _

/-- What the device adds up at an index of its rows: its own part, and the 31 that landed. -/
def total (v : FVec Ideal S32x1024 .f32) (s : FVec Ideal S31x32x1024 .bf16) (x : S32x1024.Idx) : EReal :=
  v x + ∑ o : Fin 31, s (slotIx o x)

/-- The rows a device stores: the activation of what it added up. -/
theorem pay4_apply (v : FVec Ideal S32x1024 .f32) (s : FVec Ideal S31x32x1024 .bf16) (x : S32x1024.Idx) :
    k0_pay4 (F := Ideal) v s x = total v s x * Ideal.logistic (total v s x) := by
  have hy : addf (shapeCast S32x1024 v shapeCasts_S32x1024_S32x1024)
      (multiReduction .add [0] S32x1024 (extf .f32 s bitsLt_bf16_f32) 0x00000000#32 reduces_S31x32x1024_S32x1024 (.inl rfl) rfl) x
      = total v s x := by
    rw [shapeCast_self]
    exact congrArg (v x + ·) (Ideal.reduceAdd_r3_a0 reduces_S31x32x1024_S32x1024 s x)
  unfold k0_pay4
  rw [shapeCast_self]
  show _ * Ideal.logistic _ = _
  rw [hy]

/-- The sum over the devices, as one device meets it: its own, and those behind it. -/
theorem sum_around (c : Dev nD) (f : Dev nD → EReal) : f c + ∑ o : Fin 31, f (dn o c) = ∑ d : Dev nD, f d := by
  rw [← Equiv.sum_comp (around c) f, Fintype.sum_option]
  refine congrArg (f c + ·) ?_
  rw [← Equiv.sum_comp revE fun o => f (around c (some o))]
  exact Finset.sum_congr rfl fun o _ => congrArg f (up_rev o c).symm

variable (m : (ℓ : Loc nD τ sig) → Buf (Elt Ideal) ℓ) (ρ : Dev nD → PrngReg)

/-- What a device adds up is the sum of all devices' products. -/
theorem total_eq (c : Dev nD) (x : S32x1024.Idx) :
    total (own m ρ c) (slots (part m ρ) c) x = ∑ d : Dev nD, acc m ρ d (rowIx c x) := by
  refine Eq.trans (congrArg (own m ρ c x + ·) (Finset.sum_congr rfl fun o _ => ?_)) (sum_around c fun d => acc m ρ d (rowIx c x))
  rw [slots_slotIx]
  exact congrFun (pay3_eq (acc m ρ (dn o c))) _

/-- The sum of all devices' products at an index. -/
def summed (i : S1024x1024.Idx) : EReal := ∑ d : Dev nD, acc m ρ d i

/-- The result, at an index: the activation of the sum of all devices' products there. -/
theorem outAt_apply (i : S1024x1024.Idx) : outAt m ρ i = summed m ρ i * Ideal.logistic (summed m ρ i) := by
  show outRows m ρ (blkOf i) (inBlk i) = _
  unfold outRows
  rw [pay4_apply, total_eq, rowIx_blk]
  rfl

end Cert.KernelIdeal.Ring

end
-- ==== Proof.Silu.lean ====
/-
# The activation, over the extended reals

The kernel multiplies a number by its logistic; the reference divides it by `1 + exp (-y)`. Over the extended
reals these agree at every number, the infinities included.
-/
module

public import Idealize.ShloMosaic.Lib.IdealHost

@[expose] public section

noncomputable section

namespace Cert.Silu

open Idealize.ShloMosaic

theorem exp_nonneg (z : EReal) : 0 ≤ Ideal.exp z := by
  induction z using EReal.rec with
  | bot => rw [Ideal.exp_bot]
  | top => rw [Ideal.exp_top]; exact le_top
  | coe x => rw [Ideal.exp_coe]; exact EReal.coe_nonneg.mpr (Real.exp_pos x).le

/-- The reference's divisor is never zero. -/
theorem divisor_ne (y : EReal) : 1 + Ideal.exp (-y) ≠ 0 := by
  have h : (1 : EReal) ≤ 1 + Ideal.exp (-y) := by
    have := add_le_add (le_refl (1 : EReal)) (exp_nonneg (-y))
    rwa [add_zero] at this
  exact (lt_of_lt_of_le zero_lt_one h).ne'

/-- A number times its logistic is that number divided by `1 + exp (-y)`. -/
theorem mul_logistic (y : EReal) : y * Ideal.logistic y = Ideal.div y (1 + Ideal.exp (-y)) := by
  unfold Ideal.logistic Ideal.div
  rw [if_neg (divisor_ne y), if_neg (divisor_ne y), one_mul]

/-- A number between two bounds is its own clip. -/
theorem clip_idle {lo hi y : EReal} (h : lo ≤ y) (h' : y ≤ hi) : min hi (max lo y) = y := by
  rw [max_eq_right h, min_eq_right h']

end Cert.Silu

end
-- ==== Proof.Target.lean ====
/-
# The result, as mathematics

With `X` the whole input and `W` the whole weights, the result at an index is the activation of the matrix
product of `X` and `W` there.
-/
module

public import proofs.«01_k».proof.Proof.Silu
public import Idealize.ShloMosaic.Lib.StackMember
public import Idealize.ShloMosaic.Lib.Pointwise.Sums

@[expose] public section

noncomputable section

namespace Cert.Target

open Idealize.ShloMosaic

/-- The shape of every whole array. -/
abbrev S : Shape := ⟨2, ![1024, 1024]⟩

/-- The matrix product. -/
def dense (X W : FVec Ideal S .f32) : FVec Ideal S .f32 := Host.dotGeneral (DotDims.plain 1024 1024 1024) none X W

/-- The result: each entry of the product divided by one plus the exponential of its negative. -/
def result (X W : FVec Ideal S .f32) : FVec Ideal S .f32 := fun i => Ideal.div (dense X W i) (1 + Ideal.exp (-(dense X W i)))

theorem dense_apply (X W : FVec Ideal S .f32) (r n : Fin 1024) :
    dense X W (ValueIdx.ix2 r n) = ∑ k : Fin 1024, X (ValueIdx.ix2 r k) * W (ValueIdx.ix2 k n) :=
  StackMember.dotGeneral_plain_apply none X W r n

/-- The product's sum, taken as 32 sums of 32. -/
theorem dense_tiles (X W : FVec Ideal S .f32) (r n : Fin 1024) :
    dense X W (ValueIdx.ix2 r n) = ∑ d : Fin 32, ∑ k : Fin 32,
      X (ValueIdx.ix2 r ⟨d.val * 32 + k.val, by omega⟩) * W (ValueIdx.ix2 ⟨d.val * 32 + k.val, by omega⟩ n) :=
  (dense_apply X W r n).trans
    (Fin.sum_univ_tiles 32 32 (by decide) fun k : Fin 1024 => X (ValueIdx.ix2 r k) * W (ValueIdx.ix2 k n))

end Cert.Target

end
-- ==== Proof.Equation.lean ====
/-
# The kernel's result is the target

The devices' arguments are their parts of the whole arrays: columns of the input, rows of the weights. So
the sum of the devices' products is the product of the whole arrays, and the kernel's result is the target.
-/
module

public import proofs.«01_k».proof.Proof.Arrays
public import proofs.«01_k».proof.Proof.BlockValue
public import proofs.«01_k».proof.Proof.Target

@[expose] public section

noncomputable section

namespace Cert.KernelIdeal.Ring

open Cert.KernelIdeal Cert.KernelIdeal.Gen

open Idealize.ShloMosaic
open Idealize.ShloMosaic.TcCoe
open Idealize.SL Idealize.SL.Sem

variable (m : (ℓ : Loc nD τ sig) → Buf (Elt Ideal) ℓ) (ρ : Dev nD → PrngReg)
variable (X W : FVec Ideal Target.S .f32)

/-- Each device holds its part of the whole arrays. -/
def Split : Prop := ∀ c : Dev nD,
  m ((c.tc : Thread nD τ).loc main_arg0) = Layout.block ⟨2, ![1024, 32]⟩ ⟨2, ![1024, 1024]⟩ 1 32 c X
  ∧ m ((c.tc : Thread nD τ).loc main_arg1) = Layout.block ⟨2, ![32, 1024]⟩ ⟨2, ![1024, 1024]⟩ 0 32 c W

theorem colIdx (h : Layout.Tiles ⟨2, ![1024, 32]⟩ ⟨2, ![1024, 1024]⟩ 1 32) (c : Fin 32) (r : Fin 1024) (k : Fin 32) :
    h.idx c (ValueIdx.ix2 r k) = ValueIdx.ix2 r ⟨c.val * 32 + k.val, by omega⟩ := by
  funext a
  match a with
  | ⟨0, _⟩ => rfl
  | ⟨1, _⟩ => rfl
theorem rowIdx (h : Layout.Tiles ⟨2, ![32, 1024]⟩ ⟨2, ![1024, 1024]⟩ 0 32) (c : Fin 32) (k : Fin 32) (n : Fin 1024) :
    h.idx c (ValueIdx.ix2 k n) = ValueIdx.ix2 ⟨c.val * 32 + k.val, by omega⟩ n := by
  funext a
  match a with
  | ⟨0, _⟩ => rfl
  | ⟨1, _⟩ => rfl

variable {m X W} in
/-- A device's product, in entries of the whole arrays. -/
theorem acc_apply (h : Split m X W) (c : Fin 32) (r n : Fin 1024) :
    acc m ρ c (ValueIdx.ix2 r n) = ∑ k : Fin 32,
      X (ValueIdx.ix2 r ⟨c.val * 32 + k.val, by omega⟩) * W (ValueIdx.ix2 ⟨c.val * 32 + k.val, by omega⟩ n) := by
  unfold acc
  rw [xstg_eq, wstg_eq, (h c).1, (h c).2]
  refine (pay2_apply _ _ r n).trans (Finset.sum_congr rfl fun k _ => ?_)
  rw [Layout.block_apply, Layout.block_apply, colIdx, rowIdx]

variable {m X W} in
/-- The sum of the devices' products is the product of the whole arrays. -/
theorem summed_eq (h : Split m X W) (i : S1024x1024.Idx) : summed m ρ i = Target.dense X W i := by
  have e : i = ValueIdx.ix2 (⟨(i 0).val, (i 0).isLt⟩ : Fin 1024) (⟨(i 1).val, (i 1).isLt⟩ : Fin 1024) := by
    funext a
    match a with
    | ⟨0, _⟩ => rfl
    | ⟨1, _⟩ => rfl
  rw [e, Target.dense_tiles]
  exact Finset.sum_congr rfl fun c _ => acc_apply ρ h c _ _

variable {m X W} in
/-- The kernel's result is the target. -/
theorem outAt_eq (h : Split m X W) : outAt m ρ = Target.result X W := by
  funext i
  rw [outAt_apply, Silu.mul_logistic, summed_eq ρ h]
  rfl

variable {m X W} in
/-- From memories where each device holds its part of the whole arrays, every run ends with the target in each
    device's result array and the arguments unchanged. -/
theorem run_result (h : Split m X W) : θ_run defs (onTc (τ := τ) (main (F := Ideal))) ⟨m, fun _ => 0, ρ⟩ (fun r =>
    ∀ c : Dev nD, r.2.mem ((c.tc : Thread nD τ).loc main_v1) = Target.result X W
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => ⟨((hr.1 c).1).trans (outAt_eq ρ h), (hr.1 c).2⟩) (run_arrays m ρ)

end Cert.KernelIdeal.Ring

end
-- ==== Proof.RefValue.lean ====
/-
# What the reference computes

Without the clip, the reference computes the target. With it, it computes the target at every index where
the product lies between the clip's bounds.
-/
module

public import proofs.«01_k».proof.Proof.Target
public import proofs.«01_k».proof.Proof.Gen.ReferenceIdeal.Run
public import proofs.«01_k».proof.Proof.Gen.UnclippedIdeal.Run
public import proofs.«01_k».proof.Proof.Gen.On_clip_is_idle

@[expose] public section

noncomputable section

namespace Cert.RefValue

open Idealize.ShloMosaic Idealize.ShloMosaic.TcCoe Idealize.SL.Sem
open Cert.UnclippedIdeal.Gen Cert.ReferenceIdeal.Gen Cert.On_clip_is_idle.Gen

section Unclipped

open Cert.UnclippedIdeal

/-- From any memory, every run of the reference without its clip ends with the target and the arguments unchanged. -/
theorem run_unclipped (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = Target.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  show Ideal.div (Target.dense _ _ i) (Ideal.ofBits .f32 0x3F800000#32 + Ideal.exp (-(Target.dense _ _ i))) = _
  rw [Ideal.ofBits_one_f32]
  rfl

end Unclipped

section Clipped

open Cert.ReferenceIdeal

/-- The clip's bounds, as the program writes them. -/
def lo : EReal := Ideal.ofBits .f32 0xC2700000#32
def hi : EReal := Ideal.ofBits .f32 0x42700000#32

/-- Where the predicate holds, the product lies between the clip's bounds. -/
theorem between (X W : FVec Ideal Target.S .f32) (i : Target.S.Idx) (h : Cert.On_clip_is_idle.fn (F := Ideal) X W i = 1#1) :
    lo ≤ Target.dense X W i ∧ Target.dense X W i ≤ hi := by
  have h' : BitVec.ofBool (decide (lo ≤ Target.dense X W i)) &&& BitVec.ofBool (decide (Target.dense X W i ≤ hi)) = 1#1 := h
  by_cases h1 : lo ≤ Target.dense X W i
  · by_cases h2 : Target.dense X W i ≤ hi
    · exact ⟨h1, h2⟩
    · rw [decide_eq_false h2, show BitVec.ofBool false = 0#1 from rfl, BitVec.and_zero] at h'
      exact absurd h' (by decide)
  · rw [decide_eq_false h1, show BitVec.ofBool false = 0#1 from rfl, BitVec.zero_and] at h'
    exact absurd h' (by decide)

/-- From any memory, every run of the reference ends with the target at each index where the predicate holds,
    and the arguments unchanged. -/
theorem run_clipped (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i : Target.S.Idx, Cert.On_clip_is_idle.fn (F := Ideal) (m ((c.tc : Thread nD τ).loc main_arg0)) (m ((c.tc : Thread nD τ).loc main_arg1)) i = 1#1 →
        r.2.mem ((c.tc : Thread nD τ).loc main_v6) i
          = Target.result (m ((c.tc : Thread nD τ).loc main_arg0)) (m ((c.tc : Thread nD τ).loc main_arg1)) i)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨fun i hi' => (congrFun (h c).1 i).trans ?_, (h c).2⟩) (Value.run m ρ)
  obtain ⟨h1, h2⟩ := between _ _ i hi'
  show Ideal.div (Target.dense _ _ i) (Ideal.ofBits .f32 0x3F800000#32
    + Ideal.exp (-(min hi (max lo (Target.dense _ _ i))))) = _
  rw [Ideal.ofBits_one_f32, Silu.clip_idle h1 h2]
  rfl

end Clipped

end Cert.RefValue

end
-- ==== Proof.lean ====
/-
# The claims

The frame of each program says that every run ends, with the arguments unchanged and every semaphore counter
at zero. The equality says that over the extended reals the kernel, on 32 devices that each hold their part
of the arguments, ends with the reference's result on every device: with the reference without its clip
everywhere, and with the reference as it stands wherever the clip changes nothing.
-/
module

public import proofs.«01_k».proof.Defs
public import proofs.«01_k».proof.Proof.Equation
public import proofs.«01_k».proof.Proof.RefValue
public import proofs.«01_k».proof.Proof.Printed.Arrays
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_clip_is_idle
public import Idealize.ShloMosaic.Lib.Quiescent
public import Idealize.ShloMosaic.Adequacy
public import Idealize.ShloMosaic.Init

@[expose] public section

noncomputable section

namespace Cert.Proof

open Idealize.ShloMosaic Idealize.SL.Sem

/-- The kernel: every run ends, with the arguments unchanged and every counter at zero. -/
theorem frame_kernel : Cert.quiescent_Kernel := fun m ρ _ =>
  (θ_run Cert.Kernel.defs _ _).mono (fun _ h => ⟨fun c => (h.1 c).2, h.2⟩) (Cert.Kernel.Ring.run_arrays m ρ)

/-- The same of the kernel over the extended reals; -/
theorem frame_kernelIdeal : Cert.quiescent_KernelIdeal := fun m ρ _ =>
  (θ_run Cert.KernelIdeal.defs _ _).mono (fun _ h => ⟨fun c => (h.1 c).2, h.2⟩) (Cert.KernelIdeal.Ring.run_arrays m ρ)

/-- of the reference, which declares no semaphore; -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- and of the reference without its clip. -/
theorem frame_unclipped : Cert.quiescent_UnclippedIdeal := fun m ρ _ =>
  (θ_run Cert.UnclippedIdeal.defs _ _).mono
    (fun r h => ⟨fun c => (h c).2, sem_eq_zero_of_no_sems (by decide) r.2⟩) (Cert.UnclippedIdeal.Value.run m ρ)

/-- The kernel's result is that of the reference without its clip, on every device. -/
theorem equals_unclipped : Cert.algebraic_KernelIdeal_UnclippedIdeal := fun m g m' g' _ h =>
  ⟨_, Cert.KernelIdeal.Ring.run_result g h,
    (θ_run Cert.UnclippedIdeal.defs _ _).mono (fun _ hr => hr 0) (Cert.RefValue.run_unclipped m' g')⟩

/-- The kernel's result is the reference's, on every device, at each index where the clip changes nothing. -/
theorem equals_reference : Cert.algebraic_KernelIdeal_ReferenceIdeal_on_clip_is_idle := fun m g m' g' _ h =>
  ⟨Cert.Target.result _ _,
    (θ_run Cert.KernelIdeal.defs _ _).mono (fun _ hr c => ⟨fun i _ => congrFun (hr c).1 i, (hr c).2⟩)
      (Cert.KernelIdeal.Ring.run_result g h),
    (θ_run Cert.ReferenceIdeal.defs _ _).mono (fun _ hr => hr 0) (Cert.RefValue.run_clipped m' g')⟩

/-- All the claims. -/
theorem claim : Cert.Claim :=
  ⟨Cert.Kernel.Gen.facts, Cert.KernelIdeal.Gen.facts, Cert.ReferenceIdeal.Gen.facts, Cert.UnclippedIdeal.Gen.facts,
    Cert.On_clip_is_idle.Gen.facts, frame_kernel, frame_kernelIdeal, frame_reference, frame_unclipped, trivial,
    equals_unclipped, equals_reference⟩

end Cert.Proof

end
